-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S2048x2048 : Shape := ⟨2, ![2048, 2048]⟩
abbrev S256x2048 : Shape := ⟨2, ![256, 2048]⟩
abbrev S8x256x256 : Shape := ⟨3, ![8, 256, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S256x2048, .f32⟩
  | .local _ .vmem, ⟨0, _⟩ => ⟨S2048x256, .bf16⟩
  | .local _ .vmem, ⟨1, _⟩ => ⟨S2048x2048, .bf16⟩
  | .local _ .vmem, ⟨2, _⟩ => ⟨S256x2048, .f32⟩
  | .local _ .vmem, ⟨3, _⟩ => ⟨S8x256x256, .bf16⟩
  | .local _ .vmem, ⟨4, _⟩ => ⟨S8x256x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c256_i32 : BitVec 32 := 256#32
  let v106 : BitVec 32 := Scalar.muli v105 c256_i32
  let v107 : Index := Scalar.indexCast v106
  let c0 : Index := 0#32
  ![v107.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_77 : BitVec 32 := 1#32
  let v113 : BitVec 32 := Scalar.muli v105 c1_i32_77
  let v114 : BitVec 32 := Scalar.addi c0_i32_78 v113
  v114.toNat
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v123 : BitVec 32 := Scalar.addi v2 c2_i32_83
  let c8_i32_84 : BitVec 32 := 8#32
  let c0_i32_85 : BitVec 32 := 0#32
  let v124 : BitVec 1 := Scalar.cmpi .eq c8_i32_84 c0_i32_85
  let c1_i32_86 : BitVec 32 := 1#32
  let v125 : BitVec 32 := Scalar.select v124 c1_i32_86 c8_i32_84
  let v126 : BitVec 32 := Scalar.remsi v123 v125
  let c0_i32_88 : BitVec 32 := 0#32
  let v128 : BitVec 1 := Scalar.cmpi .slt v126 c0_i32_88
  let c0_i32_89 : BitVec 32 := 0#32
  let v129 : BitVec 1 := Scalar.cmpi .slt v125 c0_i32_89
  let v130 : BitVec 1 := Scalar.xori v128 v129
  let c0_i32_87 : BitVec 32 := 0#32
  let v127 : BitVec 1 := Scalar.cmpi .ne v126 c0_i32_87
  let v131 : BitVec 1 := Scalar.andi v130 v127
  let v132 : BitVec 32 := Scalar.addi v126 v125
  let v133 : BitVec 32 := Scalar.select v131 v132 v126
  let c1_i32_98 : BitVec 32 := 1#32
  let v141 : BitVec 32 := Scalar.muli v133 c1_i32_98
  let v142 : BitVec 32 := Scalar.addi c0_i32_99 v141
  v142.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v151 : BitVec 32 := Scalar.addi v2 c3_i32_104
  let c8_i32_105 : BitVec 32 := 8#32
  let c0_i32_106 : BitVec 32 := 0#32
  let v152 : BitVec 1 := Scalar.cmpi .eq c8_i32_105 c0_i32_106
  let c1_i32_107 : BitVec 32 := 1#32
  let v153 : BitVec 32 := Scalar.select v152 c1_i32_107 c8_i32_105
  let v154 : BitVec 32 := Scalar.remsi v151 v153
  let c0_i32_109 : BitVec 32 := 0#32
  let v156 : BitVec 1 := Scalar.cmpi .slt v154 c0_i32_109
  let c0_i32_110 : BitVec 32 := 0#32
  let v157 : BitVec 1 := Scalar.cmpi .slt v153 c0_i32_110
  let v158 : BitVec 1 := Scalar.xori v156 v157
  let c0_i32_108 : BitVec 32 := 0#32
  let v155 : BitVec 1 := Scalar.cmpi .ne v154 c0_i32_108
  let v159 : BitVec 1 := Scalar.andi v158 v155
  let v160 : BitVec 32 := Scalar.addi v154 v153
  let v161 : BitVec 32 := Scalar.select v159 v160 v154
  let c1_i32_119 : BitVec 32 := 1#32
  let v169 : BitVec 32 := Scalar.muli v161 c1_i32_119
  let v170 : BitVec 32 := Scalar.addi c0_i32_120 v169
  v170.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_125 : BitVec 32 := 4#32
  let v179 : BitVec 32 := Scalar.addi v2 c4_i32_125
  let c8_i32_126 : BitVec 32 := 8#32
  let c0_i32_127 : BitVec 32 := 0#32
  let v180 : BitVec 1 := Scalar.cmpi .eq c8_i32_126 c0_i32_127
  let c1_i32_128 : BitVec 32 := 1#32
  let v181 : BitVec 32 := Scalar.select v180 c1_i32_128 c8_i32_126
  let v182 : BitVec 32 := Scalar.remsi v179 v181
  let c0_i32_130 : BitVec 32 := 0#32
  let v184 : BitVec 1 := Scalar.cmpi .slt v182 c0_i32_130
  let c0_i32_131 : BitVec 32 := 0#32
  let v185 : BitVec 1 := Scalar.cmpi .slt v181 c0_i32_131
  let v186 : BitVec 1 := Scalar.xori v184 v185
  let c0_i32_129 : BitVec 32 := 0#32
  let v183 : BitVec 1 := Scalar.cmpi .ne v182 c0_i32_129
  let v187 : BitVec 1 := Scalar.andi v186 v183
  let v188 : BitVec 32 := Scalar.addi v182 v181
  let v189 : BitVec 32 := Scalar.select v187 v188 v182
  let c1_i32_140 : BitVec 32 := 1#32
  let v197 : BitVec 32 := Scalar.muli v189 c1_i32_140
  let v198 : BitVec 32 := Scalar.addi c0_i32_141 v197
  v198.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v207 : BitVec 32 := Scalar.addi v2 c5_i32_146
  let c8_i32_147 : BitVec 32 := 8#32
  let c0_i32_148 : BitVec 32 := 0#32
  let v208 : BitVec 1 := Scalar.cmpi .eq c8_i32_147 c0_i32_148
  let c1_i32_149 : BitVec 32 := 1#32
  let v209 : BitVec 32 := Scalar.select v208 c1_i32_149 c8_i32_147
  let v210 : BitVec 32 := Scalar.remsi v207 v209
  let c0_i32_151 : BitVec 32 := 0#32
  let v212 : BitVec 1 := Scalar.cmpi .slt v210 c0_i32_151
  let c0_i32_152 : BitVec 32 := 0#32
  let v213 : BitVec 1 := Scalar.cmpi .slt v209 c0_i32_152
  let v214 : BitVec 1 := Scalar.xori v212 v213
  let c0_i32_150 : BitVec 32 := 0#32
  let v211 : BitVec 1 := Scalar.cmpi .ne v210 c0_i32_150
  let v215 : BitVec 1 := Scalar.andi v214 v211
  let v216 : BitVec 32 := Scalar.addi v210 v209
  let v217 : BitVec 32 := Scalar.select v215 v216 v210
  let c1_i32_161 : BitVec 32 := 1#32
  let v225 : BitVec 32 := Scalar.muli v217 c1_i32_161
  let v226 : BitVec 32 := Scalar.addi c0_i32_162 v225
  v226.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_167 : BitVec 32 := 6#32
  let v235 : BitVec 32 := Scalar.addi v2 c6_i32_167
  let c8_i32_168 : BitVec 32 := 8#32
  let c0_i32_169 : BitVec 32 := 0#32
  let v236 : BitVec 1 := Scalar.cmpi .eq c8_i32_168 c0_i32_169
  let c1_i32_170 : BitVec 32 := 1#32
  let v237 : BitVec 32 := Scalar.select v236 c1_i32_170 c8_i32_168
  let v238 : BitVec 32 := Scalar.remsi v235 v237
  let c0_i32_172 : BitVec 32 := 0#32
  let v240 : BitVec 1 := Scalar.cmpi .slt v238 c0_i32_172
  let c0_i32_173 : BitVec 32 := 0#32
  let v241 : BitVec 1 := Scalar.cmpi .slt v237 c0_i32_173
  let v242 : BitVec 1 := Scalar.xori v240 v241
  let c0_i32_171 : BitVec 32 := 0#32
  let v239 : BitVec 1 := Scalar.cmpi .ne v238 c0_i32_171
  let v243 : BitVec 1 := Scalar.andi v242 v239
  let v244 : BitVec 32 := Scalar.addi v238 v237
  let v245 : BitVec 32 := Scalar.select v243 v244 v238
  let c1_i32_182 : BitVec 32 := 1#32
  let v253 : BitVec 32 := Scalar.muli v245 c1_i32_182
  let v254 : BitVec 32 := Scalar.addi c0_i32_183 v253
  v254.toNat
def k0_dev14 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_188 : BitVec 32 := 7#32
  let v263 : BitVec 32 := Scalar.addi v2 c7_i32_188
  let c8_i32_189 : BitVec 32 := 8#32
  let c0_i32_190 : BitVec 32 := 0#32
  let v264 : BitVec 1 := Scalar.cmpi .eq c8_i32_189 c0_i32_190
  let c1_i32_191 : BitVec 32 := 1#32
  let v265 : BitVec 32 := Scalar.select v264 c1_i32_191 c8_i32_189
  let v266 : BitVec 32 := Scalar.remsi v263 v265
  let c0_i32_193 : BitVec 32 := 0#32
  let v268 : BitVec 1 := Scalar.cmpi .slt v266 c0_i32_193
  let c0_i32_194 : BitVec 32 := 0#32
  let v269 : BitVec 1 := Scalar.cmpi .slt v265 c0_i32_194
  let v270 : BitVec 1 := Scalar.xori v268 v269
  let c0_i32_192 : BitVec 32 := 0#32
  let v267 : BitVec 1 := Scalar.cmpi .ne v266 c0_i32_192
  let v271 : BitVec 1 := Scalar.andi v270 v267
  let v272 : BitVec 32 := Scalar.addi v266 v265
  let v273 : BitVec 32 := Scalar.select v271 v272 v266
  let c1_i32_203 : BitVec 32 := 1#32
  let v281 : BitVec 32 := Scalar.muli v273 c1_i32_203
  let v282 : BitVec 32 := Scalar.addi c0_i32_204 v281
  v282.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_209 : BitVec 32 := 256#32
  let v291 : BitVec 32 := Scalar.muli v2 c256_i32_209
  let v292 : Index := Scalar.indexCast v291
  let c0_210 : Index := 0#32
  ![v292.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_211 : BitVec 32 := 256#32
  let v295 : BitVec 32 := Scalar.muli v2 c256_i32_211
  let v296 : Index := Scalar.indexCast v295
  let c0_212 : Index := 0#32
  ![v296.toNat, 0]
def k0_off4 (d0 : Dev nD) (c1_i32_234 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v315 : BitVec 32 := Scalar.subi v2 c1_i32_234
  let c8_i32_235 : BitVec 32 := 8#32
  let c0_i32_236 : BitVec 32 := 0#32
  let v316 : BitVec 1 := Scalar.cmpi .eq c8_i32_235 c0_i32_236
  let c1_i32_237 : BitVec 32 := 1#32
  let v317 : BitVec 32 := Scalar.select v316 c1_i32_237 c8_i32_235
  let v318 : BitVec 32 := Scalar.remsi v315 v317
  let c0_i32_239 : BitVec 32 := 0#32
  let v320 : BitVec 1 := Scalar.cmpi .slt v318 c0_i32_239
  let c0_i32_240 : BitVec 32 := 0#32
  let v321 : BitVec 1 := Scalar.cmpi .slt v317 c0_i32_240
  let v322 : BitVec 1 := Scalar.xori v320 v321
  let c0_i32_238 : BitVec 32 := 0#32
  let v319 : BitVec 1 := Scalar.cmpi .ne v318 c0_i32_238
  let v323 : BitVec 1 := Scalar.andi v322 v319
  let v324 : BitVec 32 := Scalar.addi v318 v317
  let v325 : BitVec 32 := Scalar.select v323 v324 v318
  let c256_i32_241 : BitVec 32 := 256#32
  let v326 : BitVec 32 := Scalar.muli v325 c256_i32_241
  let v327 : Index := Scalar.indexCast v326
  let c0_242 : Index := 0#32
  ![v327.toNat, 0]
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.SameText.lean ====
/-
# The kernel and its idealization are one text

No operation was rewritten between the two programs, so read on hardware floats they are the same program, and a run of
one is a run of the other.
-/
module

public import proofs.«01_k».proof.Proof.Gen.Kernel
public import proofs.«01_k».proof.Proof.Gen.KernelIdeal
public import Idealize.ShloMosaic.PureOps

@[expose] public section

noncomputable section

namespace Cert.Exchange

open Idealize.ShloMosaic Idealize.SL.Sem

variable {F : FTy → Type} [FloatOps F]

/-- The two programs' kernel bodies are the same. -/
theorem bodies_eq : KernelIdeal.defs₀ (F := F) = Kernel.defs₀ (F := F) := by
  unfold KernelIdeal.defs₀ Kernel.defs₀
  refine congrArg (Defs.onTc (nD := Kernel.nD) (τ := Kernel.τ) (sig := Kernel.sig) (Val := Elt F) (Λ := Kernel.Λ₀)) ?_
  funext l x
  match l, x with
  | ⟨0, _⟩, (_, _) => rfl

/-- So are the programs' tables, bodies and pipelines together. -/
theorem tables_eq : KernelIdeal.defs (F := F) = Kernel.defs (F := F) :=
  congrArg (Pipeline.defs (Kernel.pcfgs (F := F))) bodies_eq

/-- What every run of the idealization's text ends in, every run of the kernel's text ends in. -/
theorem run_same (s : MemSt Kernel.nD Kernel.τ Kernel.sig (Elt F))
    (Q : PUnit × MemSt Kernel.nD Kernel.τ Kernel.sig (Elt F) → Prop)
    (h : θ_run (KernelIdeal.defs (F := F)) (onTc (τ := KernelIdeal.τ) (KernelIdeal.main (F := F))) s Q) :
    θ_run (Kernel.defs (F := F)) (onTc (τ := Kernel.τ) (Kernel.main (F := F))) s Q :=
  (congrArg (fun D => θ_run D (onTc (τ := Kernel.τ) (Kernel.main (F := F))) s Q) tables_eq).mp h

end Cert.Exchange

end
-- ==== Proof.Mesh.lean ====
/-
# The eight devices, the offsets at which they exchange blocks, and the semaphores they exchange on

Every device sends one block of its columns of `x` to each of the seven others. The exchange is indexed by an offset
`o : Fin 7`, which stands for the distance `o + 1` around the eight devices: device `c` sends to `fwd o c`, the device
`o + 1` places after it, and receives from `bwd o c`, the device `o + 1` places before it. Both sides use slot `o + 1`
of their two slotted buffers and semaphore `o + 1` of their two semaphore arrays; slot and semaphore `0` are unused.

The protocol, semaphore by semaphore:

* the barrier semaphore of device `c` receives one unit from each other device and `c` waits for all seven. The unit
  from `fwd e c` (duty `e`) hands `c` the landing slot `e + 1` of `fwd e c`, at whatever contents;
* the receive semaphore `o + 1` of device `c` is credited once, by the copy from `bwd o c`. The landing hands `c` its
  own landing slot `o + 1`, holding the block of `x` that `bwd o c` stored for it;
* the send semaphore `o + 1` of device `c` is credited once, by `c`'s own copy, and hands back `c`'s staging slot
  `o + 1`, holding what `c` stored there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Distances around the mesh -/

set_option backward.proofsInPublic true in
/-- The device `j` places after `c`. -/
def ahead (j : Fin 8) (c : Dev nD) : Dev nD := ⟨(c.val + j.val) % 8, Nat.mod_lt _ (by decide)⟩
set_option backward.proofsInPublic true in
/-- The device `j` places before `c`. -/
def behind (j : Fin 8) (c : Dev nD) : Dev nD := ⟨(c.val + (8 - j.val)) % 8, Nat.mod_lt _ (by decide)⟩

/-- The device that `c` sends to at offset `o`. -/
abbrev fwd (o : Fin 7) (c : Dev nD) : Dev nD := ahead o.succ c
/-- The device that `c` receives from at offset `o`. -/
abbrev bwd (o : Fin 7) (c : Dev nD) : Dev nD := behind o.succ c

theorem behind_ahead (j : Fin 8) (c : Dev nD) : behind j (ahead j c) = c := by revert j c; decide
theorem ahead_behind (j : Fin 8) (c : Dev nD) : ahead j (behind j c) = c := by revert j c; decide
/-- Going on by the complementary offset comes back. -/
theorem fwd_rev_fwd (o : Fin 7) (c : Dev nD) : fwd o.rev (fwd o c) = c := by revert o c; decide

/-- At a fixed offset, sending is a permutation of the devices. -/
def shift (o : Fin 7) : Dev nD ≃ Dev nD := ⟨fwd o, bwd o, behind_ahead o.succ, ahead_behind o.succ⟩

theorem fwd_eq_iff {o : Fin 7} {d c : Dev nD} : fwd o d = c ↔ d = bwd o c :=
  ⟨fun h => h ▸ (behind_ahead o.succ d).symm, fun h => h ▸ ahead_behind o.succ c⟩

/-! ## The device numbers and the row offsets that the kernel computes -/

/-- The device that the kernel's `o`-th signal is addressed to. -/
def sigDev (o : Fin 7) (c : Dev nD) : Nat :=
  match o with
  | 0 => k0_dev1 c | 1 => k0_dev2 c | 2 => k0_dev3 c | 3 => k0_dev4 c | 4 => k0_dev5 c | 5 => k0_dev6 c | 6 => k0_dev7 c

/-- The device that the kernel's `o`-th copy is addressed to. -/
def cpyDev (o : Fin 7) (c : Dev nD) : Nat :=
  match o with
  | 0 => k0_dev8 c | 1 => k0_dev9 c | 2 => k0_dev10 c | 3 => k0_dev11 c | 4 => k0_dev12 c | 5 => k0_dev13 c | 6 => k0_dev14 c

theorem sigDev_eq : ∀ (o : Fin 7) (c : Dev nD), sigDev o c = (fwd o c).val := by decide +kernel
theorem cpyDev_eq : ∀ (o : Fin 7) (c : Dev nD), cpyDev o c = (fwd o c).val := by decide +kernel

/-- The rows of `x` that the kernel stages at offset `o`: those of the device it sends them to. -/
theorem off1_eq : ∀ (o : Fin 7) (c : Dev nD), k0_off1 c (BitVec.ofNat 32 (1 + o.val)) = ![256 * (fwd o c).val, 0] := by decide +kernel
/-- The rows of `w` that the kernel multiplies the `o`-th received block by: those of the device it comes from. -/
theorem off4_eq : ∀ (o : Fin 7) (c : Dev nD), k0_off4 c (BitVec.ofNat 32 (1 + o.val)) = ![256 * (bwd o c).val, 0] := by decide +kernel

/-! ## The buffers and their slots -/

abbrev xM : Memref sig .tc .vmem S2048x256 .bf16 := Memref.whole cc0_stg0_0
abbrev wM : Memref sig .tc .vmem S2048x2048 .bf16 := Memref.whole cc0_stg1_0
abbrev oM : Memref sig .tc .vmem S256x2048 .f32 := Memref.whole cc0_stg2_0
abbrev xsM : Memref sig .tc .vmem S8x256x256 .bf16 := Memref.whole cc0_scratch0
abbrev xtM : Memref sig .tc .vmem S8x256x256 .bf16 := Memref.whole cc0_scratch1

theorem slot_inb (j : Fin 8) : ∀ a, (![j.val, 0, 0] : Fin 3 → Nat) a + S1x256x256.size a ≤ S8x256x256.size a := by
  revert j; decide

/-- Slot `j` of a slotted buffer, as a rectangle of it. -/
abbrev slotRect (j : Fin 8) : Rect S8x256x256 := Rect.unit (s := S8x256x256) ![j.val, 0, 0] S1x256x256.size (slot_inb j)

/-- The staging slot `j` as the copies name it. -/
abbrev xsSlot (j : Fin 8) : Memref sig .tc .vmem S256x256 .bf16 :=
  (xsM.slice (slotRect j) (fun _ => rfl)).squeeze S256x256 squeezes_S1x256x256_S256x256
/-- The landing slot `j` as the copies name it. -/
abbrev xtSlot (j : Fin 8) : Memref sig .tc .vmem S256x256 .bf16 :=
  (xtM.slice (slotRect j) (fun _ => rfl)).squeeze S256x256 squeezes_S1x256x256_S256x256

/-- The elements of slot `j`. -/
def slotSet (j : Fin 8) : Finset S8x256x256.Idx := (slotRect j).set

theorem mem_slotSet {j : Fin 8} {i : S8x256x256.Idx} : i ∈ slotSet j ↔ (i 0 : Fin 8) = j := by
  unfold slotSet
  rw [Rect.mem_set_unit]
  have h1 : (i 1).val < 256 := (i 1).isLt
  have h2 : (i 2).val < 256 := (i 2).isLt
  constructor
  · intro h
    have h0 := h 0
    have ha : j.val ≤ (i 0).val := h0.1
    have hb : (i 0).val < j.val + 1 := h0.2
    exact Fin.ext (by omega)
  · intro h a
    match a with
    | 0 => subst h; exact ⟨le_refl _, Nat.lt_succ_self _⟩
    | 1 => exact ⟨Nat.zero_le _, by show (i 1).val < 0 + 256; omega⟩
    | 2 => exact ⟨Nat.zero_le _, by show (i 2).val < 0 + 256; omega⟩

theorem slotSet_disjoint (j j' : Fin 8) (h : j ≠ j') : Disjoint (slotSet j) (slotSet j') :=
  Finset.disjoint_left.mpr fun _ hi hi' => h ((mem_slotSet.mp hi).symm.trans (mem_slotSet.mp hi'))

theorem slotSet_cover : Finset.univ.biUnion slotSet = Finset.univ := by
  ext i
  simp only [Finset.mem_biUnion, Finset.mem_univ, true_and, iff_true]
  exact ⟨i 0, mem_slotSet.mpr rfl⟩

theorem xsSlot_set (j : Fin 8) : (xsSlot j).view.set = slotSet j := by
  show ((xsM.view.slice (slotRect j)).reshape S256x256 _).set = _
  rw [View.set_reshape]; exact View.set_slice_whole _ _
theorem xtSlot_set (j : Fin 8) : (xtSlot j).view.set = slotSet j := by
  show ((xtM.view.slice (slotRect j)).reshape S256x256 _).set = _
  rw [View.set_reshape]; exact View.set_slice_whole _ _

/-! ## The semaphores -/

/-- The barrier semaphore. -/
abbrev barS : Sem sig := (SemArray.scalar (sig.barrier 0 rfl) : Sems sig S_).sem

set_option backward.proofsInPublic true in
/-- Send semaphore `j`. -/
def sendS (j : Fin 8) : DmaSem sig := ⟨3 + j.val, by have := j.isLt; show _ < 19; omega⟩
set_option backward.proofsInPublic true in
/-- Receive semaphore `j`. -/
def recvS (j : Fin 8) : DmaSem sig := ⟨11 + j.val, by have := j.isLt; show _ < 19; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))

set_option backward.proofsInPublic true in
/-- The kernel's own semaphores: the send array, then the receive array. -/
abbrev osem : Fin 16 → SemLoc sig := fun k => .dma ⟨3 + k.val, by have := k.isLt; show _ < 19; omega⟩

set_option backward.proofsInPublic true in
/-- All the semaphores of the exchange: the kernel's own, then the barrier. -/
def csem (k : Fin 17) : SemLoc sig := if h : k.val < 16 then osem ⟨k.val, h⟩ else .reg barS
abbrev kcell (ck : Dev nD × Fin 17) : GSem nD τ sig := ((ck.1 : Thread nD τ), csem ck.2)

set_option backward.proofsInPublic true in
/-- The places of the send semaphore `j`, of the receive semaphore `j` and of the barrier in that list. -/
def kSend (j : Fin 8) : Fin 17 := ⟨j.val, by have := j.isLt; omega⟩
set_option backward.proofsInPublic true in
def kRecv (j : Fin 8) : Fin 17 := ⟨8 + j.val, by have := j.isLt; omega⟩
def kBar : Fin 17 := 16

theorem kcell_send (c : Dev nD) (j : Fin 8) : kcell (c, kSend j) = sendCell c j :=
  congrArg (Prod.mk (c : Thread nD τ)) (show csem (kSend j) = .dma (sendS j) by revert j; decide)
theorem kcell_recv (c : Dev nD) (j : Fin 8) : kcell (c, kRecv j) = recvCell c j :=
  congrArg (Prod.mk (c : Thread nD τ)) (show csem (kRecv j) = .dma (recvS j) by revert j; decide)
theorem kcell_bar (c : Dev nD) : kcell (c, kBar) = barCell c :=
  congrArg (Prod.mk (c : Thread nD τ)) (show csem kBar = .reg barS by decide)

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem sem_slice_send (j : Fin 8) (inb : ∀ a, (![j.val] : Fin 1 → Nat) a + S1.size a ≤ S8.size a) :
    ((cc0_scratch2.slice (Rect.unit (s := S8) ![j.val] S1.size inb)).squeeze S_ squeezes_S1_S_).sem = sendS j := by
  revert inb; revert j; decide
theorem sem_slice_recv (j : Fin 8) (inb : ∀ a, (![j.val] : Fin 1 → Nat) a + S1.size a ≤ S8.size a) :
    ((cc0_scratch3.slice (Rect.unit (s := S8) ![j.val] S1.size inb)).squeeze S_ squeezes_S1_S_).sem = recvS j := by
  revert inb; revert j; decide

/-- What one block's copy credits. -/
abbrev N : ℕ := (xtSlot 0).view.dmaCredit
theorem N_pos : 0 < N := View.dmaCredit_pos _ (by decide)

end Cert.Exchange

end
-- ==== Proof.Protocol.lean ====
/-
# The exchange as a schedule of rounds: what each semaphore's units hand over, and what each device owes

The contents of a slot are fixed from the start: `stored` is a device's staging buffer once its stores are done,
`landed` its landing buffer once the seven copies have come in. A landing hands its slot over AT those contents.
-/
module

public import proofs.«01_k».proof.Proof.Mesh

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's own rounds, and the exchange's with duties named by offsets -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Contents -/

/-- Device `c`'s columns of `x`, as its staging buffer holds them. -/
def xstg (c : Dev nD) : (cc0_stg0_0 : Ref sig .tc).ty.Contents (Elt F) :=
  (win0_0.blk (0 : Fin 1)).view.read (Elt F) ((s₀ m ρ).mem ((c : Thread nD τ).loc main_arg0))
/-- The matrix `w`, as device `c`'s staging buffer holds it. -/
def wstg (c : Dev nD) : (cc0_stg1_0 : Ref sig .tc).ty.Contents (Elt F) :=
  (win0_1.blk (0 : Fin 1)).view.read (Elt F) ((s₀ m ρ).mem ((c : Thread nD τ).loc main_arg1))

theorem xrow_inb (d : Dev nD) : ∀ a, (![256 * d.val, 0] : Fin 2 → Nat) a + S256x256.size a ≤ S2048x256.size a := by
  revert d; decide
theorem wrow_inb (d : Dev nD) : ∀ a, (![256 * d.val, 0] : Fin 2 → Nat) a + S256x2048.size a ≤ S2048x2048.size a := by
  revert d; decide

/-- The rows of device `d` in device `c`'s columns of `x`: what `c` sends to `d`. -/
def xblk (c d : Dev nD) : Vec F S256x256 .bf16 :=
  (xM : Memref sig .tc .vmem S2048x256 .bf16).view.readAt (Elt F)
    (Rect.unit (s := S2048x256) ![256 * d.val, 0] S256x256.size (xrow_inb d)).toLoadRect (xstg m ρ c)
/-- The rows of device `d` in the matrix `w`, read on device `c`. -/
def wblk (c d : Dev nD) : Vec F S256x2048 .bf16 :=
  (wM : Memref sig .tc .vmem S2048x2048 .bf16).view.readAt (Elt F)
    (Rect.unit (s := S2048x2048) ![256 * d.val, 0] S256x2048.size (wrow_inb d)).toLoadRect (wstg m ρ c)

/-- An index of a slotted buffer, within its slot. -/
def inSlot (i : S8x256x256.Idx) : S1x256x256.Idx :=
  fun a => match a with
    | ⟨0, _⟩ => (⟨0, Nat.one_pos⟩ : Fin 1)
    | ⟨1, _⟩ => (i 1 : Fin 256)
    | ⟨2, _⟩ => (i 2 : Fin 256)

/-- Device `c`'s staging buffer after its stores: slot `j` holds the block for the device `j` places ahead. -/
def stored (c : Dev nD) : S8x256x256.Idx → Elt F .bf16 := fun i => k0_pay2 (xblk m ρ c (ahead (i 0) c)) (inSlot i)
/-- Device `c`'s landing buffer after the copies: slot `j` holds what the device `j` places behind stored there. -/
def landed (c : Dev nD) : S8x256x256.Idx → Elt F .bf16 := fun i => stored m ρ (behind (i 0) c) i

/-! ## Slots held -/

/-- Device `c` holds staging slot `j` at contents `f`. -/
def xsPts (c : Dev nD) (j : Fin 8) (f : S8x256x256.Idx → Elt F .bf16) : sProp 𝕄 :=
  ((c : Thread nD τ).loc cc0_scratch0) ↦[slotSet j]{fullShare} f
/-- Device `c`'s landing slot `j` is held at contents `f`. -/
def xtPts (c : Dev nD) (j : Fin 8) (f : S8x256x256.Idx → Elt F .bf16) : sProp 𝕄 :=
  ((c : Thread nD τ).loc cc0_scratch1) ↦[slotSet j]{fullShare} f

omit [FloatOps F] in
instance xsPts_storable (c : Dev nD) (j : Fin 8) (f : S8x256x256.Idx → Elt F .bf16) :
    BI.Storable (upEmb : UEmb _ 𝕄) (xsPts (F := F) c j f) := by unfold xsPts; infer_instance
omit [FloatOps F] in
instance xtPts_storable (c : Dev nD) (j : Fin 8) (f : S8x256x256.Idx → Elt F .bf16) :
    BI.Storable (upEmb : UEmb _ 𝕄) (xtPts (F := F) c j f) := by unfold xtPts; infer_instance

/-! ## The schedule -/

/-- The slot that a send or receive semaphore belongs to. -/
def slotOf (q : DmaSem sig) : Fin 8 := ⟨(q.val - 3) % 8, Nat.mod_lt _ (by decide)⟩

/-- What duty `e` of `c`'s barrier hands it: the landing slot `e + 1` of the device it is about to send to. -/
def barPay (c : Dev nD) (e : Fin 7) : sProp 𝕄 := iprop(∃ f, xtPts (fwd e c) e.succ f)

/-- One round, round `0`. A barrier has the seven duties, one unit each; a send or receive semaphore that is used has
    the one duty `0`, of a block's credit. -/
def sched : Rounds.Schedule (GSem nD τ sig) (Fin 7) 𝕄 where
  duties g r := match g.2 with
    | .reg _ => if r = 0 ∧ g.1.2 = .tc then Finset.univ else ∅
    | .dma q => if r = 0 ∧ g.1.2 = .tc ∧ 3 ≤ q.val ∧ slotOf q ≠ 0 then {0} else ∅
  unitless _ := False
  amount g _ _ := match g.2 with
    | .reg _ => 1
    | .dma _ => N
  payload g _ d := match g.2 with
    | .reg _ => barPay g.1.1 d
    | .dma q => if q.val < 11 then xsPts g.1.1 (slotOf q) (stored m ρ g.1.1) else xtPts g.1.1 (slotOf q) (landed m ρ g.1.1)
  amount_pos g _ _ _ := match g.2 with
    | .reg _ => Nat.one_pos
    | .dma _ => N_pos

instance sched_payload_storable (g : GSem nD τ sig) (r : ℕ) (d : Fin 7) :
    BI.Storable (upEmb : UEmb _ 𝕄) ((sched (F := F) m ρ).payload g r d) := by
  rcases g with ⟨⟨c, p⟩, s | q⟩
  · show BI.Storable upEmb (barPay c d); unfold barPay; infer_instance
  · show BI.Storable upEmb (if q.val < 11 then xsPts c (slotOf q) (stored m ρ c) else xtPts c (slotOf q) (landed m ρ c))
    split <;> infer_instance

section Tables
variable (c : Dev nD) (o : Fin 7)

theorem slotOf_send (j : Fin 8) : slotOf (sendS j) = j := by revert j; decide
theorem slotOf_recv (j : Fin 8) : slotOf (recvS j) = j := by revert j; decide

theorem duties_bar : (sched (F := F) m ρ).duties (barCell c) 0 = Finset.univ := by
  dsimp only [sched]; exact if_pos ⟨rfl, rfl⟩
theorem duties_send : (sched (F := F) m ρ).duties (sendCell c o.succ) 0 = {0} :=
  if_pos ⟨rfl, rfl, Nat.le_add_right _ _, by rw [slotOf_send]; exact Fin.succ_ne_zero o⟩
theorem duties_recv : (sched (F := F) m ρ).duties (recvCell c o.succ) 0 = {0} :=
  if_pos ⟨rfl, rfl, by show 3 ≤ 11 + _; omega, by rw [slotOf_recv]; exact Fin.succ_ne_zero o⟩
/-- The unused send semaphore has no duty, -/
theorem duties_send_zero (r : ℕ) : (sched (F := F) m ρ).duties (sendCell c 0) r = ∅ :=
  if_neg fun h => h.2.2.2 (slotOf_send 0)
/-- nor has the unused receive semaphore. -/
theorem duties_recv_zero (r : ℕ) : (sched (F := F) m ρ).duties (recvCell c 0) r = ∅ :=
  if_neg fun h => h.2.2.2 (slotOf_recv 0)
/-- After round `0` no semaphore has a duty. -/
theorem duties_later (g : GSem nD τ sig) : ∀ r, 1 ≤ r → (sched (F := F) m ρ).duties g r = ∅ := fun r hr => by
  rcases g with ⟨t, s | q⟩
  · exact if_neg fun h => by have := h.1; omega
  · exact if_neg fun h => by have := h.1; omega

theorem amount_bar (d : Fin 7) : (sched (F := F) m ρ).amount (barCell c) 0 d = 1 := rfl
theorem amount_send (j : Fin 8) (d : Fin 7) : (sched (F := F) m ρ).amount (sendCell c j) 0 d = N := rfl
theorem amount_recv (j : Fin 8) (d : Fin 7) : (sched (F := F) m ρ).amount (recvCell c j) 0 d = N := rfl

theorem payload_bar (d : Fin 7) : (sched (F := F) m ρ).payload (barCell c) 0 d = barPay c d := rfl
theorem payload_send (j : Fin 8) (d : Fin 7) :
    (sched (F := F) m ρ).payload (sendCell c j) 0 d = xsPts c j (stored m ρ c) := by
  show (if (sendS j).val < 11 then xsPts c (slotOf (sendS j)) (stored m ρ c) else xtPts c (slotOf (sendS j)) (landed m ρ c)) = _
  rw [if_pos (by show 3 + j.val < 11; have := j.isLt; omega), slotOf_send]
theorem payload_recv (j : Fin 8) (d : Fin 7) :
    (sched (F := F) m ρ).payload (recvCell c j) 0 d = xtPts c j (landed m ρ c) := by
  show (if (recvS j).val < 11 then xsPts c (slotOf (recvS j)) (stored m ρ c) else xtPts c (slotOf (recvS j)) (landed m ρ c)) = _
  rw [if_neg (by show ¬ 11 + j.val < 11; omega), slotOf_recv]

theorem expect_bar : (sched (F := F) m ρ).expect (barCell c) 0 = 7 := by
  unfold Schedule.expect Schedule.amountOf; rw [duties_bar]; rfl
theorem expect_send : (sched (F := F) m ρ).expect (sendCell c o.succ) 0 = N := by
  unfold Schedule.expect Schedule.amountOf; rw [duties_send, Finset.sum_singleton, amount_send]
theorem expect_recv : (sched (F := F) m ρ).expect (recvCell c o.succ) 0 = N := by
  unfold Schedule.expect Schedule.amountOf; rw [duties_recv, Finset.sum_singleton, amount_recv]

/-- Waiting out the barrier hands over the seven landing slots; -/
theorem rest_bar : bigSep ((sched (F := F) m ρ).duties (barCell c) 0 \ ∅) (fun d => (sched (F := F) m ρ).payload (barCell c) 0 d)
    = bigSep Finset.univ (barPay c) := by
  rw [Finset.sdiff_empty, duties_bar]; rfl
/-- a send wait, the staging slot back; -/
theorem rest_send : bigSep ((sched (F := F) m ρ).duties (sendCell c o.succ) 0 \ ∅) (fun d => (sched (F := F) m ρ).payload (sendCell c o.succ) 0 d)
    = xsPts c o.succ (stored m ρ c) := by
  rw [Finset.sdiff_empty, duties_send, bigSep_singleton, payload_send]
/-- a receive wait, the landing slot at the sender's block. -/
theorem rest_recv : bigSep ((sched (F := F) m ρ).duties (recvCell c o.succ) 0 \ ∅) (fun d => (sched (F := F) m ρ).payload (recvCell c o.succ) 0 d)
    = xtPts c o.succ (landed m ρ c) := by
  rw [Finset.sdiff_empty, duties_recv, bigSep_singleton, payload_recv]

end Tables

/-! ## What each device owes at launch -/

/-- The offsets from the `k`-th on. -/
def from_ (k : ℕ) : Finset (Fin 7) := Finset.univ.filter fun o => k ≤ o.val

theorem from_zero : from_ 0 = Finset.univ := by decide
theorem from_seven : from_ 7 = ∅ := by decide
theorem from_step (o : Fin 7) : from_ o.val = insert o (from_ (o.val + 1)) := by revert o; decide
theorem not_mem_from (o : Fin 7) : o ∉ from_ (o.val + 1) := by revert o; decide

/-- The signals still to be sent from the `k`-th on, -/
def sigOwed (c : Dev nD) (k : ℕ) : CellTallies nD τ sig Unit := ∑ o ∈ from_ k, tallyAt (barCell (fwd o c)) () 1
/-- the copies still to be started from the `k`-th on, -/
def cpyOwed (c : Dev nD) (k : ℕ) : CellTallies nD τ sig Unit := ∑ o ∈ from_ k, tallyAt (recvCell (fwd o c) o.succ) () N
/-- and at launch, all of both. -/
def O₀ (c : Dev nD) : CellTallies nD τ sig Unit := cpyOwed c 0 + sigOwed c 0

theorem sigOwed_step (c : Dev nD) (o : Fin 7) : sigOwed c o.val = sigOwed c (o.val + 1) + tallyAt (barCell (fwd o c)) () 1 := by
  unfold sigOwed; rw [from_step, Finset.sum_insert (not_mem_from o), add_comm]
theorem cpyOwed_step (c : Dev nD) (o : Fin 7) :
    cpyOwed c o.val = cpyOwed c (o.val + 1) + tallyAt (recvCell (fwd o c) o.succ) () N := by
  unfold cpyOwed; rw [from_step, Finset.sum_insert (not_mem_from o), add_comm]
theorem sigOwed_seven (c : Dev nD) : sigOwed c 7 = 0 := by unfold sigOwed; rw [from_seven, Finset.sum_empty]
theorem cpyOwed_seven (c : Dev nD) : cpyOwed c 7 = 0 := by unfold cpyOwed; rw [from_seven, Finset.sum_empty]

/-- What is owed to a cell is owed to the target of one of the copies, -/
theorem cpyOwed_pos {c : Dev nD} {k : ℕ} {g : GSem nD τ sig} {u : Unit} (h : 0 < cpyOwed c k g u) :
    ∃ o : Fin 7, g = recvCell (fwd o c) o.succ := by
  unfold cpyOwed at h
  rw [Finset.sum_apply, Finsupp.finset_sum_apply] at h
  obtain ⟨o, -, ho⟩ := Finset.exists_ne_zero_of_sum_ne_zero (Nat.pos_iff_ne_zero.mp h)
  rw [tallyAt_apply] at ho
  by_contra hn
  exact ho (if_neg fun h' => hn ⟨o, h'.1⟩)
/-- or of one of the signals. -/
theorem sigOwed_pos {c : Dev nD} {k : ℕ} {g : GSem nD τ sig} {u : Unit} (h : 0 < sigOwed c k g u) :
    ∃ o : Fin 7, g = barCell (fwd o c) := by
  unfold sigOwed at h
  rw [Finset.sum_apply, Finsupp.finset_sum_apply] at h
  obtain ⟨o, -, ho⟩ := Finset.exists_ne_zero_of_sum_ne_zero (Nat.pos_iff_ne_zero.mp h)
  rw [tallyAt_apply] at ho
  by_contra hn
  exact ho (if_neg fun h' => hn ⟨o, h'.1⟩)
theorem O₀_pos {c : Dev nD} {g : GSem nD τ sig} {u : Unit} (h : 0 < O₀ c g u) :
    (∃ o : Fin 7, g = recvCell (fwd o c) o.succ) ∨ ∃ o : Fin 7, g = barCell (fwd o c) := by
  unfold O₀ at h
  rw [Pi.add_apply, Finsupp.add_apply] at h
  rcases Nat.eq_zero_or_pos (cpyOwed c 0 g u) with h0 | h0
  · rw [h0, Nat.zero_add] at h; exact Or.inr (sigOwed_pos h)
  · exact Or.inl (cpyOwed_pos h0)

/-! ## The order of the waits: staging and send below barrier below receive -/

def L (g : GSem nD τ sig) : Finset Unit := if g.1.2 = .tc then {()} else ∅
def lv (g : GSem nD τ sig) (_ : Unit) : ℕ := match g.2 with
  | .reg _ => 1
  | .dma q => if q.val < 11 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (j : Fin 8) : lv (recvCell c j) () = 2 :=
  if_neg (by show ¬ 11 + j.val < 11; omega)

omit [FloatOps F] in
/-- A staging semaphore may be waited for while everything, or nothing, is owed. -/
theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; exact Nat.le_of_eq (if_pos hq))
      (fun g u hg => by
        rcases O₀_pos hg with ⟨o, rfl⟩ | ⟨o, rfl⟩
        · rw [lv_recv]; decide
        · rw [lv_bar]; decide)
  · rw [MayWait_zero]; iintro -; iempintro

omit [FloatOps F] in
/-- The barrier may be waited for while only copies are owed. -/
theorem mayWait_bar (c : Dev nD) : (levAts L lv : sProp 𝕄) ⊢ MayWait (c : Thread nD τ) (.reg barS) () (cpyOwed c 0) :=
  MayOwe.of_cut (L := L) (lev := lv) 1 (fun p hp => by rw [Finset.mem_singleton.mp hp, L_tc]; exact Finset.mem_singleton_self _)
    (fun g u hg => by obtain ⟨o, rfl⟩ := cpyOwed_pos hg; exact Finset.mem_singleton_self _)
    (fun p hp => by rw [Finset.mem_singleton.mp hp]; exact Nat.le_refl 1)
    (fun g u hg => by obtain ⟨o, rfl⟩ := cpyOwed_pos hg; rw [lv_recv]; decide)

end Cert.Exchange

end
-- ==== Proof.Slots.lean ====
/-
# Slots: a slotted buffer held slot by slot, and what the stores, the copies and the loads do to one slot
-/
module

public import proofs.«01_k».proof.Proof.Protocol
public import Idealize.ShloMosaic.Lib.Ring

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the slots and over the offsets -/

omit [FloatOps F] in
/-- Over the eight slots: the unused one, and one for every offset. -/
theorem bigSep_slots (Φ : Fin 8 → sProp 𝕄) :
    bigSep Finset.univ Φ = iprop(Φ 0 ∗ bigSep Finset.univ fun o : Fin 7 => Φ o.succ) := by
  rw [Fin.univ_succ, Finset.cons_eq_insert, bigSep_insert (by simp), bigSep_map]; rfl

/-- Part of the way through the offsets: those below `k` are at `A`, the others still at `B`. -/
def progress (k : ℕ) (A B : Fin 7 → sProp 𝕄) : sProp 𝕄 := bigSep Finset.univ fun o => if o.val < k then A o else B o

omit [FloatOps F] in
theorem progress_start (A B : Fin 7 → sProp 𝕄) : bigSep Finset.univ B ⊢ progress 0 A B := by
  unfold progress
  exact bigSep_mono fun o _ => by rw [if_neg (Nat.not_lt_zero _)]; exact BI.Entails.refl _
omit [FloatOps F] in
theorem progress_end (A B : Fin 7 → sProp 𝕄) : progress 7 A B ⊢ bigSep Finset.univ A := by
  unfold progress
  exact bigSep_mono fun o _ => by rw [if_pos o.isLt]; exact BI.Entails.refl _

omit [FloatOps F] in
/-- The next offset is taken out at `B`; giving it back at `A` is one step of progress. -/
theorem progress_step (o : Fin 7) (A B : Fin 7 → sProp 𝕄) :
    progress o.val A B ⊢ iprop(B o ∗ (A o -∗ progress (o.val + 1) A B)) := by
  have hrest : bigSep (Finset.univ.erase o) (fun o' : Fin 7 => if o'.val < o.val then A o' else B o')
      = bigSep (Finset.univ.erase o) (fun o' : Fin 7 => if o'.val < o.val + 1 then A o' else B o') :=
    bigSep_congr fun o' ho' => by
      have hne : o'.val ≠ o.val := fun h => (Finset.mem_erase.mp ho').1 (Fin.ext h)
      by_cases h : o'.val < o.val
      · rw [if_pos h, if_pos (Nat.lt_succ_of_lt h)]
      · rw [if_neg h, if_neg (by omega)]
  unfold progress
  rw [bigSep_univ_at _ o, bigSep_univ_at (fun o' : Fin 7 => if o'.val < o.val + 1 then A o' else B o') o, hrest,
    if_neg (Nat.lt_irrefl _), if_pos (Nat.lt_succ_self _)]
  iintro ⟨HB, Hr⟩
  isplitl [HB]; · iexact HB
  iintro HA
  isplitl [HA]; · iexact HA
  iexact Hr

/-! ## A buffer and its slots -/

omit [FloatOps F] in
/-- The staging buffer held whole is held slot by slot, -/
theorem xs_split (c : Dev nD) (f : S8x256x256.Idx → Elt F .bf16) :
    (((c : Thread nD τ).loc cc0_scratch0) ↦{fullShare} f : sProp 𝕄) = bigSep Finset.univ fun j => xsPts c j f :=
  Ring.pointsTo_blocks (ℓ := (c : Thread nD τ).loc cc0_scratch0) slotSet slotSet_disjoint slotSet_cover f
omit [FloatOps F] in
/-- and so is the landing buffer; -/
theorem xt_split (c : Dev nD) (f : S8x256x256.Idx → Elt F .bf16) :
    (((c : Thread nD τ).loc cc0_scratch1) ↦{fullShare} f : sProp 𝕄) = bigSep Finset.univ fun j => xtPts c j f :=
  Ring.pointsTo_blocks (ℓ := (c : Thread nD τ).loc cc0_scratch1) slotSet slotSet_disjoint slotSet_cover f
omit [FloatOps F] in
/-- slots held each at some contents make the whole buffer, at some contents. -/
theorem xs_join (c : Dev nD) (f₀ : S8x256x256.Idx → Elt F .bf16) :
    bigSep Finset.univ (fun j : Fin 8 => iprop(∃ f, xsPts c j f)) ⊢ (iprop(∃ f : Buf (Elt F) ((c : Thread nD τ).loc cc0_scratch0), ((c : Thread nD τ).loc cc0_scratch0) ↦{fullShare} f) : sProp 𝕄) :=
  Ring.pointsTo_blocks_join_exists (ℓ := (c : Thread nD τ).loc cc0_scratch0) slotSet slotSet_disjoint slotSet_cover f₀
omit [FloatOps F] in
theorem xt_join (c : Dev nD) (f₀ : S8x256x256.Idx → Elt F .bf16) :
    bigSep Finset.univ (fun j : Fin 8 => iprop(∃ f, xtPts c j f)) ⊢ (iprop(∃ f : Buf (Elt F) ((c : Thread nD τ).loc cc0_scratch1), ((c : Thread nD τ).loc cc0_scratch1) ↦{fullShare} f) : sProp 𝕄) :=
  Ring.pointsTo_blocks_join_exists (ℓ := (c : Thread nD τ).loc cc0_scratch1) slotSet slotSet_disjoint slotSet_cover f₀

/-! ## Indices of a slot -/

theorem emb_slot_zero (j : Fin 8) (x : S1x256x256.Idx) : ((slotRect j).emb x 0 : Fin 8) = j :=
  Fin.ext (by
    have h : (x 0).val < 1 := (x 0).isLt
    show j.val + 1 * (x 0).val = j.val
    omega)
theorem inSlot_emb (j : Fin 8) (x : S1x256x256.Idx) : inSlot ((slotRect j).emb x) = x := by
  funext a
  have h : (x 0).val < 1 := (x 0).isLt
  match a with
  | 0 => exact Fin.ext (by show 0 = (x 0).val; omega)
  | 1 => exact Fin.ext (by show 0 + 1 * (x 1).val = (x 1).val; omega)
  | 2 => exact Fin.ext (by show 0 + 1 * (x 2).val = (x 2).val; omega)

/-- A slot's elements are the images of the block's indices. -/
theorem exists_of_mem_slot {j : Fin 8} {i : S8x256x256.Idx} (h : i ∈ slotSet j) : ∃ x, (slotRect j).emb x = i := by
  unfold slotSet at h
  rw [← Rect.map_emb_univ, Finset.mem_map] at h
  obtain ⟨x, -, hx⟩ := h
  exact ⟨x, hx⟩

theorem stored_emb (c : Dev nD) (j : Fin 8) (x : S1x256x256.Idx) :
    stored m ρ c ((slotRect j).emb x) = k0_pay2 (xblk m ρ c (ahead j c)) x := by
  unfold stored; rw [emb_slot_zero, inSlot_emb]

/-! ## Store, copy and load at one slot -/

/-- Storing device `c`'s block for the device `j` places ahead leaves slot `j` at `stored`. -/
theorem store_slot (c : Dev nD) (j : Fin 8) (f : S8x256x256.Idx → Elt F .bf16) (i : S8x256x256.Idx) (hi : i ∈ slotSet j) :
    ((xsM : Memref sig .tc .vmem S8x256x256 .bf16).access (slotRect j) : View sig .tc _ _ _).write (Elt F) f
      (k0_pay2 (xblk m ρ c (ahead j c))) Finset.univ i = stored m ρ c i := by
  obtain ⟨x, rfl⟩ := exists_of_mem_slot hi
  rw [stored_emb]
  exact View.write_emb_of_mem (v := ((xsM : Memref sig .tc .vmem S8x256x256 .bf16).access (slotRect j) : View sig .tc _ _ _))
    f (k0_pay2 (xblk m ρ c (ahead j c))) (Finset.mem_univ x)

/-- Copying staging slot `j` of device `c` into landing slot `j` of the device `j` places ahead leaves that at
    `landed`, whatever it held. -/
theorem copy_slot (c : Dev nD) (j : Fin 8) (fd : S8x256x256.Idx → Elt F .bf16) (i : S8x256x256.Idx) (hi : i ∈ slotSet j) :
    (xtSlot j).view.write (Elt F) fd ((xsSlot j).view.read (Elt F) (stored m ρ c)) Finset.univ i = landed m ρ (ahead j c) i := by
  have hl : landed m ρ (ahead j c) i = stored m ρ c i := by
    unfold landed; rw [mem_slotSet.mp hi, behind_ahead]
  rw [hl]
  rw [← xtSlot_set j] at hi
  unfold View.set at hi
  rw [Finset.mem_map] at hi
  obtain ⟨y, -, rfl⟩ := hi
  exact View.write_emb_of_mem (v := (xtSlot j).view) fd _ (Finset.mem_univ y)

/-- Loading landing slot `j` on device `c` reads the block that the device `j` places behind stored for it. -/
theorem load_slot (c : Dev nD) (j : Fin 8) :
    (xtM : Memref sig .tc .vmem S8x256x256 .bf16).view.readAt (Elt F) (slotRect j).toLoadRect (landed m ρ c)
      = k0_pay2 (xblk m ρ (behind j c) c) := by
  funext x
  show landed m ρ c ((slotRect j).emb x) = _
  unfold landed
  rw [emb_slot_zero, stored_emb, ahead_behind]

/-! ## The slot that an access goes through, and the slot that a copy names -/

theorem xs_access_sub (j : Fin 8) : ((xsM : Memref sig .tc .vmem S8x256x256 .bf16).access (slotRect j)).set ⊆ slotSet j :=
  Finset.subset_of_eq (View.set_slice_whole cc0_scratch0 (slotRect j))
theorem xt_access_sub (j : Fin 8) : ((xtM : Memref sig .tc .vmem S8x256x256 .bf16).access (slotRect j)).set ⊆ slotSet j :=
  Finset.subset_of_eq (View.set_slice_whole cc0_scratch1 (slotRect j))

omit [FloatOps F] in
theorem xsPts_slot (c : Dev nD) (j : Fin 8) (f : S8x256x256.Idx → Elt F .bf16) :
    (xsPts c j f : sProp 𝕄) = ((xsSlot j).view.loc (c : Thread nD τ) ↦[(xsSlot j).view.set]{fullShare} f) := by
  unfold xsPts; rw [xsSlot_set]
omit [FloatOps F] in
theorem xtPts_slot (c : Dev nD) (j : Fin 8) (f : S8x256x256.Idx → Elt F .bf16) :
    (xtPts c j f : sProp 𝕄) = ((xtSlot j).view.loc (c : Thread nD τ) ↦[(xtSlot j).view.set]{fullShare} f) := by
  unfold xtPts; rw [xtSlot_set]

/-- The stored slot, as an assertion. -/
theorem xsPts_store (c : Dev nD) (j : Fin 8) (f : S8x256x256.Idx → Elt F .bf16) :
    (((c : Thread nD τ).loc cc0_scratch0) ↦[slotSet j]{fullShare}
        ((xsM : Memref sig .tc .vmem S8x256x256 .bf16).access (slotRect j) : View sig .tc _ _ _).write (Elt F) f
          (k0_pay2 (xblk m ρ c (ahead j c))) Finset.univ : sProp 𝕄) = xsPts c j (stored m ρ c) :=
  pointsTo_congr fun i hi => store_slot m ρ c j f i hi
/-- The copied slot, as an assertion. -/
theorem xtPts_copy (c : Dev nD) (j : Fin 8) (fd : S8x256x256.Idx → Elt F .bf16) :
    ((xtSlot j).view.loc (ahead j c : Thread nD τ) ↦[(xtSlot j).view.set]{fullShare}
        (xtSlot j).view.write (Elt F) fd ((xsSlot j).view.read (Elt F) (stored m ρ c)) Finset.univ : sProp 𝕄)
      = xtPts (ahead j c) j (landed m ρ (ahead j c)) := by
  rw [xtPts_slot, xtSlot_set]
  exact pointsTo_congr fun i hi => copy_slot m ρ c j fd i hi

end Cert.Exchange

end
-- ==== Proof.Steps.lean ====
/-
# The steps of the exchange, each proved once for every offset

`records` is what every device knows of every semaphore of the mesh: its invariant, and that its round `0` is reached.
It is persistent. Each step below takes what it consumes to what it leaves, at a symbolic device and offset.
-/
module

public import proofs.«01_k».proof.Proof.Slots

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every semaphore's invariant, under the names `K`, and that its round `0` is reached. -/
def records (K : Dev nD × Fin 17 → ℕ) : sProp 𝕄 :=
  iprop((bigSep Finset.univ fun ck : Dev nD × Fin 17 => cellInv ER (sched m ρ) (K ck) (kcell ck))
    ∗ bigSep Finset.univ fun ck : Dev nD × Fin 17 => reached ER (kcell ck) 0)

instance records_persistent (K : Dev nD × Fin 17 → ℕ) : BI.Persistent (records m ρ K) := by unfold records; infer_instance

variable (K : Dev nD × Fin 17 → ℕ)

/-- The names of the three kinds of semaphore. -/
abbrev nBar (c : Dev nD) : ℕ := K (c, kBar)
abbrev nSend (c : Dev nD) (j : Fin 8) : ℕ := K (c, kSend j)
abbrev nRecv (c : Dev nD) (j : Fin 8) : ℕ := K (c, kRecv j)

omit [FloatOps F] in
theorem inv_of_records (ck : Dev nD × Fin 17) {g : GSem nD τ sig} (h : kcell ck = g) :
    records m ρ K ⊢ cellInv ER (sched m ρ) (K ck) g := by
  subst h
  have h : (bigSep Finset.univ fun ck : Dev nD × Fin 17 => (cellInv ER (sched m ρ) (K ck) (kcell ck) : sProp 𝕄))
      ⊢ cellInv ER (sched m ρ) (K ck) (kcell ck) := bigSep_elim (Finset.mem_univ ck)
  unfold records
  iintro ⟨H, -⟩
  iapply h
  iexact H
omit [FloatOps F] in
theorem reached_of_records (ck : Dev nD × Fin 17) {g : GSem nD τ sig} (h : kcell ck = g) :
    records m ρ K ⊢ reached ER g 0 := by
  subst h
  have h : (bigSep Finset.univ fun ck : Dev nD × Fin 17 => (reached ER (kcell ck) 0 : sProp 𝕄)) ⊢ reached ER (kcell ck) 0 :=
    bigSep_elim (Finset.mem_univ ck)
  unfold records
  iintro ⟨-, H⟩
  iapply h
  iexact H

/-! ## The signals -/

/-- What device `c`'s signal at offset `o` takes: the duty's token, and the landing slot it offers. -/
def sigB (c : Dev nD) (o : Fin 7) : sProp 𝕄 :=
  iprop(dutyTok ER (barCell (fwd o c)) 0 o.rev ∗ ∃ f, xtPts c o.rev.succ f)

theorem wp_sig (c n : Dev nD) (o : Fin 7) {lo hi : ℕ} (hlo : o.val = lo) (hhi : o.val + 1 = hi) (hn : n = fwd o c) (W : Waits sig Unit) {α : Type} {Q : α → sProp 𝕄}
    {k : PUnit → Prog (TpuEff nD τ sig (Elt F) Λ₀ .tc) α} :
    iprop(records m ρ K ∗ owes (c : Thread nD τ) (cpyOwed c 0 + sigOwed c lo) W ∗ progress lo (fun _ => iprop(emp)) (sigB c))
      ⊢ iprop(((owes (c : Thread nD τ) (cpyOwed c 0 + sigOwed c hi) W ∗ progress hi (fun _ => iprop(emp)) (sigB c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS ((1#32 : BitVec 32).toInt)) k) Q) := by
  subst hlo hhi
  subst hn
  have hO : cpyOwed c 0 + sigOwed c o.val = cpyOwed c 0 + sigOwed c (o.val + 1) + tallyAt (barCell (fwd o c)) () 1 := by
    rw [sigOwed_step c o, add_assoc]
  iintro ⟨#HR, HO, HP⟩ Hk
  ihave HP := (progress_step o _ _) $$ HP
  icases HP with ⟨HB, Hback⟩
  unfold sigB
  icases HB with ⟨Htok, Hxt⟩
  iapply (Rounds.wp_signal 𝒱₀ ER (sched m ρ) (c : Thread nD τ) none (dst := (fwd o c : Thread nD τ)) (κ := nBar K (fwd o c))
      (d := o.rev) (by rw [duties_bar]; exact Finset.mem_univ _) ((amount_bar m ρ (fwd o c) o.rev).trans (by decide)) ()
      (cpyOwed c 0 + sigOwed c (o.val + 1)) hO) $$ [HO Htok Hxt]
  · isplitr; · iapply (inv_of_records m ρ K (fwd o c, kBar) (kcell_bar _)); iexact HR
    isplitl [HO]; · iexact HO
    isplitl [Htok]; · iexact Htok
    isplitl [Hxt]
    · rw [payload_bar]; unfold barPay; rw [fwd_rev_fwd]; iexact Hxt
    · iapply (reached_of_records m ρ K (fwd o c, kBar) (kcell_bar _)); iexact HR
  iintro HO
  iapply Hk
  isplitl [HO]; · iexact HO
  iapply Hback; iempintro

/-! ## The barrier -/

/-- Device `c` waits for its seven units: the seven landing slots it will copy into. -/
theorem wp_bar (c : Dev nD) (W : Waits sig Unit) {α : Type} {Q : α → sProp 𝕄}
    {k : PUnit → Prog (TpuEff nD τ sig (Elt F) Λ₀ .tc) α} :
    iprop(records m ρ K ∗ levAts L lv ∗ cred (tallyAt (barCell c) () 7) ∗ owes (c : Thread nD τ) (cpyOwed c 0) W ∗ atPos ER (barCell c) 0 ∅ 0)
      ⊢ iprop(((owes (c : Thread nD τ) (cpyOwed c 0) (insert (.reg barS, ()) W) ∗ atPos ER (barCell c) 1 ∅ 0 ∗ bigSep Finset.univ (barPay c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS ((7#32 : BitVec 32).toInt)) k) Q) := by
  iintro ⟨#HR, #Hlev, Hc, HO, Hat⟩ Hk
  iapply (Rounds.wp_wait_rest_token 𝒱₀ ER (sched m ρ) (c : Thread nD τ) none (κ := nBar K c)
      (wpE_semWait_eq 𝒱₀ (c : Thread nD τ) none Set.univ) (Set.mem_univ _) () (O := cpyOwed c 0) (W := W) (R := 0) (m := 0) (T := ∅)
      (by rw [expect_bar]; decide)) $$ [Hc HO Hat]
  · isplitr; · iapply (inv_of_records m ρ K (c, kBar) (kcell_bar _)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-! ## The copies -/

/-- What device `c`'s copy at offset `o` takes: its own staging slot, the landing slot it was handed, and the tokens of
    the two duties the copy pays. -/
def cpyB (c : Dev nD) (o : Fin 7) : sProp 𝕄 :=
  iprop((∃ f, xsPts c o.succ f) ∗ barPay c o ∗ dutyTok ER (sendCell c o.succ) 0 0 ∗ dutyTok ER (recvCell (fwd o c) o.succ) 0 0)
/-- What it leaves: the right to wait for the copy's end. -/
def cpyA (c : Dev nD) (o : Fin 7) : sProp 𝕄 := cred (tallyAt (sendCell c o.succ) () N)

theorem credit_landing (j : Fin 8) : (xtSlot j).view.amount (.dma (recvS j)) = N := rfl

/-- The copy alone: staging slot `o + 1` of `c` into the landing slot `o + 1` of `fwd o c`, held at any contents. -/
theorem wp_enqueue (c : Dev nD) (o : Fin 7) (W : Waits sig Unit) (fd : S8x256x256.Idx → Elt F .bf16)
    {hsc : (xtSlot o.succ : Memref sig (Dev.tc (fwd o c) : Thread nD τ).2.kind .vmem S256x256 .bf16).view.ref.isScScratch = false}
    {hsrc : (xsSlot o.succ).view.WordExact} {hdst : (xtSlot o.succ).view.WordExact}
    {hsem : DmaTarget.Typed .vmem (.dma (recvS o.succ))
      (.remote (Dev.tc (fwd o c) : Thread nD τ) (xtSlot o.succ) (.dma (sendS o.succ)) hsc)}
    {α : Type} {Q : α → sProp 𝕄} {k : PUnit → Prog (TpuEff nD τ sig (Elt F) Λ₀ .tc) α} :
    iprop(cellInv ER (sched m ρ) (nSend K c o.succ) (sendCell c o.succ) ∗ cellInv ER (sched m ρ) (nRecv K (fwd o c) o.succ) (recvCell (fwd o c) o.succ)
        ∗ ((xsSlot o.succ).view.loc (c : Thread nD τ) ↦[(xsSlot o.succ).view.set]{fullShare} stored m ρ c)
        ∗ ((xtSlot o.succ).view.loc (fwd o c : Thread nD τ) ↦[(xtSlot o.succ).view.set]{fullShare} fd)
        ∗ owes (c : Thread nD τ) (cpyOwed c o.val) W
        ∗ dutyTok ER (sendCell c o.succ) 0 0 ∗ reached ER (sendCell c o.succ) 0
        ∗ dutyTok ER (recvCell (fwd o c) o.succ) 0 0 ∗ reached ER (recvCell (fwd o c) o.succ) 0)
      ⊢ iprop(((cred (tallyAt (sendCell c o.succ) () N) ∗ owes (c : Thread nD τ) (cpyOwed c (o.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsSlot o.succ) (.remote (Dev.tc (fwd o c) : Thread nD τ) (xtSlot o.succ) (.dma (sendS o.succ)) hsc)
                (.dma (recvS o.succ)) hsrc hdst hsem) k) Q) := by
  have hd₁ : (0 : Fin 7) ∈ (sched m ρ).duties (sendCell c o.succ) 0 := by
    rw [duties_send]; exact Finset.mem_singleton_self _
  have hd₂ : (0 : Fin 7) ∈ (sched m ρ).duties (recvCell (fwd o c) o.succ) 0 := by
    rw [duties_recv]; exact Finset.mem_singleton_self _
  have hp₁ : ((xsSlot o.succ).view.loc (c : Thread nD τ) ↦[(xsSlot o.succ).view.set]{fullShare} stored m ρ c : sProp 𝕄)
      ⊢ (sched m ρ).payload (sendCell c o.succ) 0 0 := by
    rw [payload_send, xsPts_slot]
  have hp₂ : ((xtSlot o.succ).view.loc (fwd o c : Thread nD τ) ↦[(xtSlot o.succ).view.set]{fullShare}
        (xtSlot o.succ).view.write (Elt F) fd ((xsSlot o.succ).view.read (Elt F) (stored m ρ c)) Finset.univ : sProp 𝕄)
      ⊢ (sched m ρ).payload (recvCell (fwd o c) o.succ) 0 0 := by
    rw [payload_recv, xtPts_copy]
  exact Rounds.wp_send_pointsTo 𝒱₀ ER (sched m ρ) (c : Thread nD τ) none (κ₁ := nSend K c o.succ) (κ₂ := nRecv K (fwd o c) o.succ)
    (r₁ := 0) (r₂ := 0) (d₁ := 0) (d₂ := 0) (fd := fd) hd₁ hd₂ () () N (credit_landing o.succ) (amount_send m ρ c o.succ 0) (amount_recv m ρ (fwd o c) o.succ 0)
    (cpyOwed c (o.val + 1)) (cpyOwed_step c o) (W := W) hp₁ hp₂

/-- The staged block is stored in slot `o + 1` (after a load of it that is not used) and copied to `fwd o c`. -/
theorem wp_cpy (c n : Dev nD) (o : Fin 7) (hn : n = fwd o c) (W : Waits sig Unit)
    (w : (slotRect o.succ).shape.Idx → Elt F .bf16) (hw : w = k0_pay2 (xblk m ρ c (fwd o c)))
    {sS sR : DmaSem sig} (hS : sS = sendS o.succ) (hR : sR = recvS o.succ)
    {hl : (xsM : Memref sig .tc .vmem S8x256x256 .bf16).view.LoadsAt (slotRect o.succ).toLoadRect}
    {hs : ((xsM : Memref sig .tc .vmem S8x256x256 .bf16).access (slotRect o.succ)).Stores Finset.univ}
    {hm : (Finset.univ : Finset (slotRect o.succ).shape.Idx) = Finset.univ ∨ ∀ a, (slotRect o.succ).stride a = 1}
    {hsc : (xtSlot o.succ : Memref sig (Dev.tc n : Thread nD τ).2.kind .vmem S256x256 .bf16).view.ref.isScScratch = false}
    {hsrc : (xsSlot o.succ).view.WordExact} {hdst : (xtSlot o.succ).view.WordExact}
    {hsem : DmaTarget.Typed .vmem (.dma sR) (.remote (Dev.tc n : Thread nD τ) (xtSlot o.succ) (.dma sS) hsc)}
    {α : Type} {Q : α → sProp 𝕄} {k : PUnit → Prog (TpuEff nD τ sig (Elt F) Λ₀ .tc) α} :
    iprop(records m ρ K ∗ owes (c : Thread nD τ) (cpyOwed c o.val) W ∗ progress o.val (cpyA c) (cpyB c))
      ⊢ iprop(((owes (c : Thread nD τ) (cpyOwed c (o.val + 1)) W ∗ progress (o.val + 1) (cpyA c) (cpyB c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xsM (slotRect o.succ).toLoadRect hl) fun _ =>
                .op (.store xsM (slotRect o.succ) w Finset.univ hs hm) fun _ =>
                .op (.enqueueDma (xsSlot o.succ) (.remote (Dev.tc n : Thread nD τ) (xtSlot o.succ) (.dma sS) hsc) (.dma sR) hsrc hdst hsem) k) Q) := by
  subst hn hw hS hR
  iintro ⟨#HR, HO, HP⟩ Hk
  ihave HP := (progress_step o _ _) $$ HP
  icases HP with ⟨HB, Hback⟩
  unfold cpyB barPay
  icases HB with ⟨⟨%f, Hxs⟩, ⟨%fd, Hxt⟩, HtS, HtR⟩
  unfold xsPts
  iapply (wp_load_rect 𝒱₀ (c : Thread nD τ) none Set.univ (m := xsM) (r := slotRect o.succ) (S := slotSet o.succ) (xs_access_sub o.succ)) $$ Hxs
  iintro Hxs
  iapply (wp_store 𝒱₀ (c : Thread nD τ) none Set.univ (m := xsM) (r := slotRect o.succ) (Mk := Finset.univ) (S := slotSet o.succ)
    (xs_access_sub o.succ)) $$ Hxs
  iintro Hxs
  ihave Hxs := (Entails.of_eq (xsPts_store m ρ c o.succ f)) $$ Hxs
  ihave Hxs := (Entails.of_eq (xsPts_slot c o.succ (stored m ρ c))) $$ Hxs
  ihave Hxt := (Entails.of_eq (xtPts_slot (fwd o c) o.succ fd)) $$ Hxt
  iapply (wp_enqueue m ρ K c o W fd)
    $$ [HO Hxs Hxt HtS HtR]
  · isplitr; · iapply (inv_of_records m ρ K (c, kSend o.succ) (kcell_send _ _)); iexact HR
    isplitr; · iapply (inv_of_records m ρ K (fwd o c, kRecv o.succ) (kcell_recv _ _)); iexact HR
    isplitl [Hxs]; · iexact Hxs
    isplitl [Hxt]; · iexact Hxt
    isplitl [HO]; · iexact HO
    isplitl [HtS]; · iexact HtS
    isplitr; · iapply (reached_of_records m ρ K (c, kSend o.succ) (kcell_send _ _)); iexact HR
    isplitl [HtR]; · iexact HtR
    iapply (reached_of_records m ρ K (fwd o c, kRecv o.succ) (kcell_recv _ _)); iexact HR
  iintro ⟨Hc, HO⟩
  iapply Hk
  isplitl [HO]; · iexact HO
  iapply Hback; unfold cpyA; iexact Hc

end Cert.Exchange

end
-- ==== Proof.Operands.lean ====
/-
# The staged operands and the output buffer: what their loads read, what the stores leave
-/
module

public import proofs.«01_k».proof.Proof.Steps

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

/-! ## The staged operands -/

/-- Device `c` holds its columns of `x`, -/
def xPts (c : Dev nD) : sProp 𝕄 := ((c : Thread nD τ).loc cc0_stg0_0) ↦{fullShare} xstg m ρ c
/-- the matrix `w`, -/
def wPts (c : Dev nD) : sProp 𝕄 := ((c : Thread nD τ).loc cc0_stg1_0) ↦{fullShare} wstg m ρ c
/-- and its output buffer, at contents `f`. -/
def oPts (c : Dev nD) (f : Vec F S256x2048 .f32) : sProp 𝕄 := ((c : Thread nD τ).loc cc0_stg2_0) ↦{fullShare} f

theorem wp_load_x (c d : Dev nD) {off : Fin 2 → Nat} (hoff : off = ![256 * d.val, 0])
    {inb : ∀ a, off a + S256x256.size a ≤ S2048x256.size a}
    {hl : (xM : Memref sig .tc .vmem S2048x256 .bf16).view.LoadsAt (Rect.unit (s := S2048x256) off S256x256.size inb).toLoadRect}
    {α : Type} {Q : α → sProp 𝕄} {k : Vec F S256x256 .bf16 → Prog (TpuEff nD τ sig (Elt F) Λ₀ .tc) α} :
    xPts m ρ c ⊢ iprop((xPts m ρ c -∗ wp frame (wpE (defs₀ (F := F)) 𝒱₀ (c : Thread nD τ) none) Set.univ (k (xblk m ρ c d)) Q)
          -∗ wp frame (wpE (defs₀ (F := F)) 𝒱₀ (c : Thread nD τ) none) Set.univ
              (.op (.load xM (Rect.unit (s := S2048x256) off S256x256.size inb).toLoadRect hl) k) Q) := by
  subst hoff
  unfold xPts xblk
  exact wp_load 𝒱₀ (c : Thread nD τ) none Set.univ (m := xM) (Finset.subset_univ _)

theorem wp_load_w (c d : Dev nD) {off : Fin 2 → Nat} (hoff : off = ![256 * d.val, 0])
    {inb : ∀ a, off a + S256x2048.size a ≤ S2048x2048.size a}
    {hl : (wM : Memref sig .tc .vmem S2048x2048 .bf16).view.LoadsAt (Rect.unit (s := S2048x2048) off S256x2048.size inb).toLoadRect}
    {α : Type} {Q : α → sProp 𝕄} {k : Vec F S256x2048 .bf16 → Prog (TpuEff nD τ sig (Elt F) Λ₀ .tc) α} :
    wPts m ρ c ⊢ iprop((wPts m ρ c -∗ wp frame (wpE (defs₀ (F := F)) 𝒱₀ (c : Thread nD τ) none) Set.univ (k (wblk m ρ c d)) Q)
          -∗ wp frame (wpE (defs₀ (F := F)) 𝒱₀ (c : Thread nD τ) none) Set.univ
              (.op (.load wM (Rect.unit (s := S2048x2048) off S256x2048.size inb).toLoadRect hl) k) Q) := by
  subst hoff
  unfold wPts wblk
  exact wp_load 𝒱₀ (c : Thread nD τ) none Set.univ (m := wM) (Finset.subset_univ _)

/-! ## The output buffer, loaded and stored whole -/

/-- The whole of the output buffer, as the kernel names it. -/
abbrev oRect : Rect S256x2048 := Rect.unit (s := S256x2048) ![0, 0] S256x2048.size inb_S256x2048_S256x2048_0_0

theorem zero_offsets : (![0, 0] : Fin 2 → Nat) = fun _ => 0 := by funext a; match a with | 0 => rfl | 1 => rfl

theorem wp_load_o (c : Dev nD) (f : Vec F S256x2048 .f32)
    {hl : (oM : Memref sig .tc .vmem S256x2048 .f32).view.LoadsAt oRect.toLoadRect}
    {α : Type} {Q : α → sProp 𝕄} {k : Vec F S256x2048 .f32 → Prog (TpuEff nD τ sig (Elt F) Λ₀ .tc) α} :
    oPts c f ⊢ iprop((oPts c f -∗ wp frame (wpE (defs₀ (F := F)) 𝒱₀ (c : Thread nD τ) none) Set.univ (k f) Q)
          -∗ wp frame (wpE (defs₀ (F := F)) 𝒱₀ (c : Thread nD τ) none) Set.univ (.op (.load oM oRect.toLoadRect hl) k) Q) := by
  have hr : (oM : Memref sig .tc .vmem S256x2048 .f32).view.readAt (Elt F) oRect.toLoadRect f = f :=
    Memref.readAt_unit_zero (Elt F) cc0_stg2_0 zero_offsets _ f
  unfold oPts
  iintro H Hk
  iapply (wp_load 𝒱₀ (c : Thread nD τ) none Set.univ (m := oM) (Finset.subset_univ _)) $$ H; iintro H
  rw [hr]
  iapply Hk; iexact H

theorem wp_store_o (c : Dev nD) (f w : Vec F S256x2048 .f32)
    {hs : ((oM : Memref sig .tc .vmem S256x2048 .f32).access oRect).Stores Finset.univ}
    {hm : (Finset.univ : Finset oRect.shape.Idx) = Finset.univ ∨ ∀ a, oRect.stride a = 1}
    {α : Type} {Q : α → sProp 𝕄} {k : PUnit → Prog (TpuEff nD τ sig (Elt F) Λ₀ .tc) α} :
    oPts c f ⊢ iprop((oPts c w -∗ wp frame (wpE (defs₀ (F := F)) 𝒱₀ (c : Thread nD τ) none) Set.univ (k ⟨⟩) Q)
          -∗ wp frame (wpE (defs₀ (F := F)) 𝒱₀ (c : Thread nD τ) none) Set.univ (.op (.store oM oRect w Finset.univ hs hm) k) Q) := by
  have hr : ((oM : Memref sig .tc .vmem S256x2048 .f32).access oRect : View sig .tc _ _ _).write (Elt F) f w Finset.univ = w :=
    Memref.write_access_unit_zero_univ (Elt F) cc0_stg2_0 zero_offsets _ f w
  unfold oPts
  iintro H Hk
  iapply (wp_store 𝒱₀ (c : Thread nD τ) none Set.univ (m := oM) (r := oRect) (Mk := Finset.univ) (Finset.subset_univ _)) $$ H; iintro H
  rw [hr]
  iapply Hk; iexact H

end Cert.Exchange

end
-- ==== Proof.Phases.lean ====
/-
# What one offset costs: a block loaded, stored and sent; a block received and accumulated
-/
module

public import proofs.«01_k».proof.Proof.Operands

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

/-! ## One offset's block loaded, stored and sent -/

/-- The rows of `x` for `fwd o c` are loaded, stored in staging slot `o + 1` and copied away. -/
theorem wp_send_block (c n : Dev nD) (o : Fin 7) {lo hi : ℕ} (hlo : o.val = lo) (hhi : o.val + 1 = hi) (hn : n = fwd o c) (W : Waits sig Unit)
    {off : Fin 2 → Nat} (hoff : off = ![256 * (fwd o c).val, 0])
    (pay : Vec F S256x256 .bf16 → (slotRect o.succ).shape.Idx → Elt F .bf16) (hpay : ∀ v, pay v = k0_pay2 v)
    {sS sR : DmaSem sig} (hS : sS = sendS o.succ) (hR : sR = recvS o.succ)
    {inb : ∀ a, off a + S256x256.size a ≤ S2048x256.size a}
    {hlx : (xM : Memref sig .tc .vmem S2048x256 .bf16).view.LoadsAt (Rect.unit (s := S2048x256) off S256x256.size inb).toLoadRect}
    {hl : (xsM : Memref sig .tc .vmem S8x256x256 .bf16).view.LoadsAt (slotRect o.succ).toLoadRect}
    {hs : ((xsM : Memref sig .tc .vmem S8x256x256 .bf16).access (slotRect o.succ)).Stores Finset.univ}
    {hm : (Finset.univ : Finset (slotRect o.succ).shape.Idx) = Finset.univ ∨ ∀ a, (slotRect o.succ).stride a = 1}
    {hsc : (xtSlot o.succ : Memref sig (Dev.tc n : Thread nD τ).2.kind .vmem S256x256 .bf16).view.ref.isScScratch = false}
    {hsrc : (xsSlot o.succ).view.WordExact} {hdst : (xtSlot o.succ).view.WordExact}
    {hsem : DmaTarget.Typed .vmem (.dma sR) (.remote (Dev.tc n : Thread nD τ) (xtSlot o.succ) (.dma sS) hsc)}
    {α : Type} {Q : α → sProp 𝕄} {k : PUnit → Prog (TpuEff nD τ sig (Elt F) Λ₀ .tc) α} :
    iprop(records m ρ K ∗ xPts m ρ c ∗ owes (c : Thread nD τ) (cpyOwed c lo) W ∗ progress lo (cpyA c) (cpyB c))
      ⊢ iprop(((xPts m ρ c ∗ owes (c : Thread nD τ) (cpyOwed c hi) W ∗ progress hi (cpyA c) (cpyB c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S2048x256) off S256x256.size inb).toLoadRect hlx) fun v =>
                .op (.load xsM (slotRect o.succ).toLoadRect hl) fun _ =>
                .op (.store xsM (slotRect o.succ) (pay v) Finset.univ hs hm) fun _ =>
                .op (.enqueueDma (xsSlot o.succ) (.remote (Dev.tc n : Thread nD τ) (xtSlot o.succ) (.dma sS) hsc) (.dma sR) hsrc hdst hsem) k) Q) := by
  subst hlo hhi
  iintro ⟨#HR, Hx, HO, HP⟩ Hk
  iapply (wp_load_x m ρ c (fwd o c) hoff) $$ Hx
  iintro Hx
  iapply (wp_cpy m ρ K c n o hn W (pay (xblk m ρ c (fwd o c))) (hpay _) hS hR) $$ [HO HP]
  · isplitr; · iexact HR
    isplitl [HO]; · iexact HO
    iexact HP
  iintro ⟨HO, HP⟩
  iapply Hk
  isplitl [Hx]; · iexact Hx
  isplitl [HO]; · iexact HO
  iexact HP

/-! ## The accumulation -/

/-- Device `c`'s output after its own block and the first `k` received ones, each product added to what is there. -/
def accAt (c : Dev nD) : ℕ → Vec F S256x2048 .f32
  | 0 => k0_pay10 (xblk m ρ c c) (wblk m ρ c c)
  | k + 1 => if h : k < 7 then k0_pay11 (wblk m ρ c (bwd ⟨k, h⟩ c)) (accAt c k) (k0_pay2 (xblk m ρ (bwd ⟨k, h⟩ c) c)) else accAt c k

theorem accAt_step (c : Dev nD) (o : Fin 7) :
    accAt m ρ c (o.val + 1) = k0_pay11 (wblk m ρ c (bwd o c)) (accAt m ρ c o.val) (k0_pay2 (xblk m ρ (bwd o c) c)) := dif_pos o.isLt

/-- Device `c`'s own block: its product is the output's first contents. -/
theorem wp_own_block (c : Dev nD) (f : Vec F S256x2048 .f32)
    {off off' : Fin 2 → Nat} (hoff : off = ![256 * c.val, 0]) (hoff' : off' = ![256 * c.val, 0])
    {inb : ∀ a, off a + S256x256.size a ≤ S2048x256.size a} {inb' : ∀ a, off' a + S256x2048.size a ≤ S2048x2048.size a}
    {hlx : (xM : Memref sig .tc .vmem S2048x256 .bf16).view.LoadsAt (Rect.unit (s := S2048x256) off S256x256.size inb).toLoadRect}
    {hlw : (wM : Memref sig .tc .vmem S2048x2048 .bf16).view.LoadsAt (Rect.unit (s := S2048x2048) off' S256x2048.size inb').toLoadRect}
    {hl : (oM : Memref sig .tc .vmem S256x2048 .f32).view.LoadsAt oRect.toLoadRect}
    {hs : ((oM : Memref sig .tc .vmem S256x2048 .f32).access oRect).Stores Finset.univ}
    {hm : (Finset.univ : Finset oRect.shape.Idx) = Finset.univ ∨ ∀ a, oRect.stride a = 1}
    {α : Type} {Q : α → sProp 𝕄} {k : PUnit → Prog (TpuEff nD τ sig (Elt F) Λ₀ .tc) α} :
    iprop(xPts m ρ c ∗ wPts m ρ c ∗ oPts c f)
      ⊢ iprop(((xPts m ρ c ∗ wPts m ρ c ∗ oPts c (accAt m ρ c 0))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S2048x256) off S256x256.size inb).toLoadRect hlx) fun x =>
                .op (.load wM (Rect.unit (s := S2048x2048) off' S256x2048.size inb').toLoadRect hlw) fun w =>
                .op (.load oM oRect.toLoadRect hl) fun _ =>
                .op (.store oM oRect (k0_pay10 x w) Finset.univ hs hm) k) Q) := by
  iintro ⟨Hx, Hw, Ho⟩ Hk
  iapply (wp_load_x m ρ c c hoff) $$ Hx; iintro Hx
  iapply (wp_load_w m ρ c c hoff') $$ Hw; iintro Hw
  iapply (wp_load_o c f) $$ Ho; iintro Ho
  iapply (wp_store_o c f _) $$ Ho; iintro Ho
  iapply Hk
  isplitl [Hx]; · iexact Hx
  isplitl [Hw]; · iexact Hw
  unfold accAt
  iexact Ho

/-! ## One offset's block received and accumulated -/

/-- Device `c` owes nothing. -/
def idle (c : Dev nD) : sProp 𝕄 := iprop(∃ W, owes (c : Thread nD τ) 0 W)

/-- What device `c` holds of offset `o` before it waits for its copy and for the one that comes to it, -/
def rcvB (c : Dev nD) (o : Fin 7) : sProp 𝕄 :=
  iprop(cred (tallyAt (sendCell c o.succ) () N) ∗ cred (tallyAt (recvCell c o.succ) () N)
    ∗ atPos ER (sendCell c o.succ) 0 ∅ 0 ∗ atPos ER (recvCell c o.succ) 0 ∅ 0)
/-- and after. -/
def rcvA (c : Dev nD) (o : Fin 7) : sProp 𝕄 :=
  iprop(atPos ER (sendCell c o.succ) 1 ∅ 0 ∗ atPos ER (recvCell c o.succ) 1 ∅ 0
    ∗ xsPts c o.succ (stored m ρ c) ∗ xtPts c o.succ (landed m ρ c))

theorem credit_staging (j : Fin 8) : (xsSlot j).view.dmaCredit = N := rfl
theorem credit_landing' (j : Fin 8) : (xtSlot j).view.dmaCredit = N := rfl

theorem wp_wait_send (c : Dev nD) (o : Fin 7) (W : Waits sig Unit)
    {h₁ : (xtSlot o.succ).view.WordExact} {h₂ : (xsSlot o.succ).view.WordExact}
    {α : Type} {Q : α → sProp 𝕄} {k : PUnit → Prog (TpuEff nD τ sig (Elt F) Λ₀ .tc) α} :
    iprop(records m ρ K ∗ cred (tallyAt (sendCell c o.succ) () N) ∗ owes (c : Thread nD τ) 0 W ∗ atPos ER (sendCell c o.succ) 0 ∅ 0)
      ⊢ iprop(((owes (c : Thread nD τ) 0 (insert (.dma (sendS o.succ), ()) W) ∗ atPos ER (sendCell c o.succ) 1 ∅ 0 ∗ xsPts c o.succ (stored m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS o.succ) (xtSlot o.succ) (xsSlot o.succ) h₁ h₂) k) Q) := by
  iintro ⟨#HR, Hc, HO, Hat⟩ Hk
  iapply (Rounds.wp_wait_rest_token 𝒱₀ ER (sched m ρ) (c : Thread nD τ) none (κ := nSend K c o.succ)
      (wpE_waitDma2_eq 𝒱₀ (c : Thread nD τ) none Set.univ) (Set.mem_univ _) () (O := 0) (W := W) (R := 0) (m := 0) (T := ∅)
      (by rw [Nat.zero_add, expect_send, credit_staging])) $$ [Hc HO Hat]
  · isplitr; · iapply (inv_of_records m ρ K (c, kSend o.succ) (kcell_send _ _)); iexact HR
    isplitl [Hc]; · rw [credit_staging]; iexact Hc
    isplitl [HO]; · iexact HO
    isplitr; · rw [MayWait_zero]; iempintro
    iexact Hat
  iintro ⟨HO, Hat, -, Hpay⟩
  ihave Hp := (Entails.of_eq (rest_send m ρ c o)) $$ Hpay
  iapply Hk
  isplitl [HO]; · iexact HO
  isplitl [Hat]; · iexact Hat
  iexact Hp

theorem wp_wait_recv (c : Dev nD) (o : Fin 7) (W : Waits sig Unit)
    {h₁ : (xsSlot o.succ).view.WordExact} {h₂ : (xtSlot o.succ).view.WordExact}
    {α : Type} {Q : α → sProp 𝕄} {k : PUnit → Prog (TpuEff nD τ sig (Elt F) Λ₀ .tc) α} :
    iprop(records m ρ K ∗ cred (tallyAt (recvCell c o.succ) () N) ∗ owes (c : Thread nD τ) 0 W ∗ atPos ER (recvCell c o.succ) 0 ∅ 0)
      ⊢ iprop(((owes (c : Thread nD τ) 0 (insert (.dma (recvS o.succ), ()) W) ∗ atPos ER (recvCell c o.succ) 1 ∅ 0 ∗ xtPts c o.succ (landed m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS o.succ) (xsSlot o.succ) (xtSlot o.succ) h₁ h₂) k) Q) := by
  iintro ⟨#HR, Hc, HO, Hat⟩ Hk
  iapply (Rounds.wp_wait_rest_token 𝒱₀ ER (sched m ρ) (c : Thread nD τ) none (κ := nRecv K c o.succ)
      (wpE_waitDma2_eq 𝒱₀ (c : Thread nD τ) none Set.univ) (Set.mem_univ _) () (O := 0) (W := W) (R := 0) (m := 0) (T := ∅)
      (by rw [Nat.zero_add, expect_recv, credit_landing'])) $$ [Hc HO Hat]
  · isplitr; · iapply (inv_of_records m ρ K (c, kRecv o.succ) (kcell_recv _ _)); iexact HR
    isplitl [Hc]; · rw [credit_landing']; iexact Hc
    isplitl [HO]; · iexact HO
    isplitr; · rw [MayWait_zero]; iempintro
    iexact Hat
  iintro ⟨HO, Hat, -, Hpay⟩
  ihave Hp := (Entails.of_eq (rest_recv m ρ c o)) $$ Hpay
  iapply Hk
  isplitl [HO]; · iexact HO
  isplitl [Hat]; · iexact Hat
  iexact Hp

/-- Device `c` waits for its own copy at offset `o` and for the block of `bwd o c`, loads that block and the rows of `w`
    that go with it, and adds their product to its output. -/
theorem wp_receive_block (c : Dev nD) (o : Fin 7) {lo hi : ℕ} (hlo : o.val = lo) (hhi : o.val + 1 = hi)
    {off : Fin 2 → Nat} (hoff : off = ![256 * (bwd o c).val, 0])
    (pay : Vec F S256x2048 .bf16 → Vec F S256x2048 .f32 → Vec F S1x256x256 .bf16 → Vec F S256x2048 .f32)
    (hpay : ∀ w a x, pay w a x = k0_pay11 w a x)
    {sS sR : DmaSem sig} (hS : sS = sendS o.succ) (hR : sR = recvS o.succ)
    {h₁ h₄ : (xtSlot o.succ).view.WordExact} {h₂ h₃ : (xsSlot o.succ).view.WordExact}
    {inb : ∀ a, off a + S256x2048.size a ≤ S2048x2048.size a}
    {hlw : (wM : Memref sig .tc .vmem S2048x2048 .bf16).view.LoadsAt (Rect.unit (s := S2048x2048) off S256x2048.size inb).toLoadRect}
    {hl hl' : (oM : Memref sig .tc .vmem S256x2048 .f32).view.LoadsAt oRect.toLoadRect}
    {hlt : (xtM : Memref sig .tc .vmem S8x256x256 .bf16).view.LoadsAt (slotRect o.succ).toLoadRect}
    {hs : ((oM : Memref sig .tc .vmem S256x2048 .f32).access oRect).Stores Finset.univ}
    {hm : (Finset.univ : Finset oRect.shape.Idx) = Finset.univ ∨ ∀ a, oRect.stride a = 1}
    {α : Type} {Q : α → sProp 𝕄} {k : PUnit → Prog (TpuEff nD τ sig (Elt F) Λ₀ .tc) α} :
    iprop(records m ρ K ∗ idle c ∗ progress lo (rcvA m ρ c) (rcvB c) ∗ wPts m ρ c ∗ oPts c (accAt m ρ c lo))
      ⊢ iprop(((idle c ∗ progress hi (rcvA m ρ c) (rcvB c) ∗ wPts m ρ c ∗ oPts c (accAt m ρ c hi))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (xtSlot o.succ) (xsSlot o.succ) h₁ h₂) fun _ =>
                .op (.waitDma2 sR (xsSlot o.succ) (xtSlot o.succ) h₃ h₄) fun _ =>
                .op (.load wM (Rect.unit (s := S2048x2048) off S256x2048.size inb).toLoadRect hlw) fun w =>
                .op (.load oM oRect.toLoadRect hl) fun a =>
                .op (.load xtM (slotRect o.succ).toLoadRect hlt) fun x =>
                .op (.load oM oRect.toLoadRect hl') fun _ =>
                .op (.store oM oRect (pay w a x) Finset.univ hs hm) k) Q) := by
  subst hlo hhi
  subst hS hR
  iintro ⟨#HR, HI, HP, Hw, Ho⟩ Hk
  ihave HP := (progress_step o _ _) $$ HP
  icases HP with ⟨HB, Hback⟩
  unfold idle rcvB
  icases HI with ⟨%W, HO⟩
  icases HB with ⟨HcS, HcR, HatS, HatR⟩
  iapply (wp_wait_send m ρ K c o W) $$ [HcS HO HatS]
  · isplitr; · iexact HR
    isplitl [HcS]; · iexact HcS
    isplitl [HO]; · iexact HO
    iexact HatS
  iintro ⟨HO, HatS, Hxs⟩
  iapply (wp_wait_recv m ρ K c o (insert (.dma (sendS o.succ), ()) W)) $$ [HcR HO HatR]
  · isplitr; · iexact HR
    isplitl [HcR]; · iexact HcR
    isplitl [HO]; · iexact HO
    iexact HatR
  iintro ⟨HO, HatR, Hxt⟩
  iapply (wp_load_w m ρ c (bwd o c) hoff) $$ Hw; iintro Hw
  iapply (wp_load_o c _) $$ Ho; iintro Ho
  unfold xtPts
  iapply (wp_load_rect 𝒱₀ (c : Thread nD τ) none Set.univ (m := xtM) (r := slotRect o.succ) (S := slotSet o.succ) (xt_access_sub o.succ)) $$ Hxt
  iintro Hxt
  iapply (wp_load_o c _) $$ Ho; iintro Ho
  iapply (wp_store_o c _ _) $$ Ho; iintro Ho
  iapply Hk
  isplitl [HO]; · iexists _; iexact HO
  isplitl [HatS HatR Hxs Hxt Hback]
  · iapply Hback
    unfold rcvA
    isplitl [HatS]; · iexact HatS
    isplitl [HatR]; · iexact HatR
    isplitl [Hxs]; · iexact Hxs
    unfold xtPts; iexact Hxt
  isplitl [Hw]; · iexact Hw
  rw [accAt_step, ← load_slot, hpay]
  iexact Ho

end Cert.Exchange

end
-- ==== Proof.States.lean ====
/-
# What a device starts from and ends with, and the states between the phases
-/
module

public import proofs.«01_k».proof.Proof.Phases

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over a device's semaphores -/

/-- A place in the list of semaphores, by kind. -/
def place : (Fin 8 ⊕ Fin 8) ⊕ Unit → Fin 17
  | .inl (.inl j) => kSend j
  | .inl (.inr j) => kRecv j
  | .inr () => kBar

theorem place_bijective : Function.Bijective place := by
  constructor
  · intro a b; revert a b; decide
  · intro k; revert k; decide

omit [FloatOps F] in
/-- Over the seventeen semaphores: the send ones, the receive ones and the barrier. -/
theorem bigSep_cells (Φ : Fin 17 → sProp 𝕄) :
    bigSep Finset.univ Φ = iprop(((bigSep Finset.univ fun j => Φ (kSend j)) ∗ bigSep Finset.univ fun j => Φ (kRecv j)) ∗ Φ kBar) := by
  rw [bigSep_univ_equiv (Equiv.ofBijective place place_bijective) Φ, bigSep_univ_sum, bigSep_univ_sum]
  rw [show (Finset.univ : Finset Unit) = {()} from rfl, bigSep_singleton]
  rfl

/-! ## What a device's body starts from -/

/-- Its positions: at round `0` of all its semaphores. -/
def positions (c : Dev nD) : sProp 𝕄 := bigSep Finset.univ fun k : Fin 17 => atPos ER (kcell (c, k)) 0 ∅ 0

/-- The tokens of the duties that it pays: the signals', and both ends' of each of its copies. -/
def payToks (c : Dev nD) : sProp 𝕄 :=
  iprop((bigSep Finset.univ fun o : Fin 7 => dutyTok ER (barCell (fwd o c)) 0 o.rev)
    ∗ (bigSep Finset.univ fun o : Fin 7 => dutyTok ER (sendCell c o.succ) 0 0)
    ∗ bigSep Finset.univ fun o : Fin 7 => dutyTok ER (recvCell (fwd o c) o.succ) 0 0)

/-- All of its ghost state. -/
def ghost (c : Dev nD) : sProp 𝕄 := iprop(∃ K, records m ρ K ∗ positions c ∗ payToks c)

/-- With the credits for what the others owe it. -/
def start (c : Dev nD) : sProp 𝕄 :=
  iprop(ghost m ρ c ∗ cred (tallyAt (barCell c) () 7)
    ∗ (bigSep Finset.univ fun o : Fin 7 => cred (tallyAt (recvCell c o.succ) () N)) ∗ levAts L lv)

/-- Both slotted buffers, at any contents. -/
def slotted (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Before the body. -/
def Φ₀ (c : Dev nD) : sProp 𝕄 := iprop(start m ρ c ∗ slotted c)
/-- After it: every semaphore closed, its counter at zero. -/
def Φ₁ (c : Dev nD) : sProp 𝕄 := iprop(slotted c ∗ bigSep Finset.univ fun k : Fin 17 => semVal (kcell (c, k)) 0)

/-! ## Slots given out and taken back -/

omit [FloatOps F] in
theorem xs_open (c : Dev nD) :
    iprop(∃ f : Buf (Elt F) ((c : Thread nD τ).loc cc0_scratch0), ((c : Thread nD τ).loc cc0_scratch0) ↦{fullShare} f)
      ⊢ (iprop((∃ f, xsPts c 0 f) ∗ bigSep Finset.univ fun o : Fin 7 => iprop(∃ f, xsPts c o.succ f)) : sProp 𝕄) := by
  iintro ⟨%f, H⟩
  have h : (((c : Thread nD τ).loc cc0_scratch0) ↦{fullShare} f : sProp 𝕄)
      ⊢ iprop((∃ f, xsPts c 0 f) ∗ bigSep Finset.univ fun o : Fin 7 => iprop(∃ f, xsPts c o.succ f)) := by
    rw [xs_split, bigSep_slots]
    exact sep_mono (exists_intro f) (bigSep_mono fun o _ => exists_intro (Φ := fun f => xsPts c o.succ f) f)
  iapply h; iexact H
omit [FloatOps F] in
theorem xt_open (c : Dev nD) :
    iprop(∃ f : Buf (Elt F) ((c : Thread nD τ).loc cc0_scratch1), ((c : Thread nD τ).loc cc0_scratch1) ↦{fullShare} f)
      ⊢ (iprop((∃ f, xtPts c 0 f) ∗ bigSep Finset.univ fun o : Fin 7 => iprop(∃ f, xtPts c o.succ f)) : sProp 𝕄) := by
  iintro ⟨%f, H⟩
  have h : (((c : Thread nD τ).loc cc0_scratch1) ↦{fullShare} f : sProp 𝕄)
      ⊢ iprop((∃ f, xtPts c 0 f) ∗ bigSep Finset.univ fun o : Fin 7 => iprop(∃ f, xtPts c o.succ f)) := by
    rw [xt_split, bigSep_slots]
    exact sep_mono (exists_intro f) (bigSep_mono fun o _ => exists_intro (Φ := fun f => xtPts c o.succ f) f)
  iapply h; iexact H

/-- The seven staging slots at `stored` and the unused one make the buffer again; -/
theorem xs_close (c : Dev nD) :
    iprop((∃ f, xsPts c 0 f) ∗ bigSep Finset.univ fun o : Fin 7 => xsPts c o.succ (stored m ρ c))
      ⊢ (iprop(∃ f : Buf (Elt F) ((c : Thread nD τ).loc cc0_scratch0), ((c : Thread nD τ).loc cc0_scratch0) ↦{fullShare} f) : sProp 𝕄) := by
  refine BIBase.Entails.trans ?_ (xs_join c (stored m ρ c))
  rw [bigSep_slots fun j => iprop(∃ f, xsPts c j f)]
  exact sep_mono_right (bigSep_mono fun o _ => exists_intro (Φ := fun f => xsPts c o.succ f) _)
/-- and likewise the landing slots at `landed`. -/
theorem xt_close (c : Dev nD) :
    iprop((∃ f, xtPts c 0 f) ∗ bigSep Finset.univ fun o : Fin 7 => xtPts c o.succ (landed m ρ c))
      ⊢ (iprop(∃ f : Buf (Elt F) ((c : Thread nD τ).loc cc0_scratch1), ((c : Thread nD τ).loc cc0_scratch1) ↦{fullShare} f) : sProp 𝕄) := by
  refine BIBase.Entails.trans ?_ (xt_join c (landed m ρ c))
  rw [bigSep_slots fun j => iprop(∃ f, xtPts c j f)]
  exact sep_mono_right (bigSep_mono fun o _ => exists_intro (Φ := fun f => xtPts c o.succ f) _)

/-! ## The states the phases start from -/

omit [FloatOps F] in
theorem signals_start (c : Dev nD) :
    iprop((bigSep Finset.univ fun o : Fin 7 => dutyTok ER (barCell (fwd o c)) 0 o.rev) ∗ bigSep Finset.univ fun o : Fin 7 => iprop(∃ f, xtPts c o.succ f))
      ⊢ (progress 0 (fun _ => iprop(emp)) (sigB c) : sProp 𝕄) := by
  refine BIBase.Entails.trans ?_ (progress_start _ _)
  rw [bigSep_univ_equiv Fin.revPerm (fun o : Fin 7 => iprop(∃ f, xtPts c o.succ f)), ← bigSep_sep']
  rfl

omit [FloatOps F] in
theorem copies_start (c : Dev nD) :
    iprop((bigSep Finset.univ fun o : Fin 7 => iprop(∃ f, xsPts c o.succ f)) ∗ bigSep Finset.univ (barPay c)
        ∗ (bigSep Finset.univ fun o : Fin 7 => dutyTok ER (sendCell c o.succ) 0 0)
        ∗ bigSep Finset.univ fun o : Fin 7 => dutyTok ER (recvCell (fwd o c) o.succ) 0 0)
      ⊢ (progress 0 (cpyA c) (cpyB c) : sProp 𝕄) := by
  refine BIBase.Entails.trans ?_ (progress_start _ _)
  rw [← bigSep_sep', ← bigSep_sep', ← bigSep_sep']
  rfl

theorem receives_start (c : Dev nD) :
    iprop(progress 7 (cpyA c) (cpyB c) ∗ (bigSep Finset.univ fun o : Fin 7 => cred (tallyAt (recvCell c o.succ) () N))
        ∗ (bigSep Finset.univ fun o : Fin 7 => atPos ER (sendCell c o.succ) 0 ∅ 0)
        ∗ bigSep Finset.univ fun o : Fin 7 => atPos ER (recvCell c o.succ) 0 ∅ 0)
      ⊢ (progress 0 (rcvA m ρ c) (rcvB c) : sProp 𝕄) := by
  refine BIBase.Entails.trans (sep_mono_left (progress_end _ _)) (BIBase.Entails.trans ?_ (progress_start _ _))
  rw [← bigSep_sep', ← bigSep_sep', ← bigSep_sep']
  rfl

theorem receives_end (c : Dev nD) :
    progress 7 (rcvA m ρ c) (rcvB c)
      ⊢ (iprop((bigSep Finset.univ fun o : Fin 7 => atPos ER (sendCell c o.succ) 1 ∅ 0)
        ∗ (bigSep Finset.univ fun o : Fin 7 => atPos ER (recvCell c o.succ) 1 ∅ 0)
        ∗ (bigSep Finset.univ fun o : Fin 7 => xsPts c o.succ (stored m ρ c))
        ∗ bigSep Finset.univ fun o : Fin 7 => xtPts c o.succ (landed m ρ c)) : sProp 𝕄) := by
  refine BIBase.Entails.trans (progress_end _ _) ?_
  rw [← bigSep_sep', ← bigSep_sep', ← bigSep_sep']
  rfl

omit [FloatOps F] in
/-- The positions, semaphore by semaphore. -/
theorem positions_eq (c : Dev nD) :
    (positions c : sProp 𝕄) = iprop(((atPos ER (sendCell c 0) 0 ∅ 0 ∗ bigSep Finset.univ fun o : Fin 7 => atPos ER (sendCell c o.succ) 0 ∅ 0)
        ∗ atPos ER (recvCell c 0) 0 ∅ 0 ∗ bigSep Finset.univ fun o : Fin 7 => atPos ER (recvCell c o.succ) 0 ∅ 0)
      ∗ atPos ER (barCell c) 0 ∅ 0) := by
  unfold positions
  rw [bigSep_cells]
  simp only [kcell_send, kcell_recv, kcell_bar]
  rw [bigSep_slots fun j => atPos ER (sendCell c j) 0 ∅ 0, bigSep_slots fun j => atPos ER (recvCell c j) 0 ∅ 0]

/-! ## The semaphores closed -/

/-- The round each semaphore ends at: the first for the two that are not used, the second for the others. -/
def endRound (k : Fin 17) : ℕ := if k = kSend 0 ∨ k = kRecv 0 then 0 else 1

theorem duties_end (c : Dev nD) (k : Fin 17) : ∀ r, endRound k ≤ r → (sched (F := F) m ρ).duties (kcell (c, k)) r = ∅ := by
  intro r hr
  unfold endRound at hr
  by_cases h : k = kSend 0 ∨ k = kRecv 0
  · rcases h with rfl | rfl
    · rw [kcell_send]; exact duties_send_zero m ρ c r
    · rw [kcell_recv]; exact duties_recv_zero m ρ c r
  · rw [if_neg h] at hr; exact duties_later m ρ _ r hr

variable (K : Dev nD × Fin 17 → ℕ)

theorem close_one (c : Dev nD) (k : Fin 17) :
    iprop(records m ρ K ∗ atPos ER (kcell (c, k)) (endRound k) ∅ 0) ⊢ (iprop(|={Set.univ}=> semVal (kcell (c, k)) 0) : sProp 𝕄) :=
  (sep_mono_left (inv_of_records m ρ K (c, k) rfl)).trans
    (Rounds.cell_close ER (sched m ρ) (Set.mem_univ (K (c, k))) (fun h => h) (R := endRound k) (duties_end m ρ c k))

/-- All of a device's semaphores, at their last rounds, are closed: every counter is at zero. -/
theorem close_all (c : Dev nD) :
    iprop(records m ρ K ∗ bigSep Finset.univ fun k : Fin 17 => atPos ER (kcell (c, k)) (endRound k) ∅ 0)
      ⊢ (iprop(|={Set.univ}=> bigSep Finset.univ fun k : Fin 17 => semVal (kcell (c, k)) 0) : sProp 𝕄) :=
  (bigSep_with_persistent fun k _ => close_one m ρ K c k).trans (bigSep_fupd _ _)

omit [FloatOps F] in
/-- The last positions, semaphore by semaphore. -/
theorem end_positions (c : Dev nD) :
    iprop(((atPos ER (sendCell c 0) 0 ∅ 0 ∗ bigSep Finset.univ fun o : Fin 7 => atPos ER (sendCell c o.succ) 1 ∅ 0)
        ∗ atPos ER (recvCell c 0) 0 ∅ 0 ∗ bigSep Finset.univ fun o : Fin 7 => atPos ER (recvCell c o.succ) 1 ∅ 0)
      ∗ atPos ER (barCell c) 1 ∅ 0)
      = (bigSep Finset.univ fun k : Fin 17 => atPos ER (kcell (c, k)) (endRound k) ∅ 0 : sProp 𝕄) := by
  have hs : ∀ o : Fin 7, endRound (kSend o.succ) = 1 := by decide
  have hr : ∀ o : Fin 7, endRound (kRecv o.succ) = 1 := by decide
  rw [bigSep_cells]
  simp only [kcell_send, kcell_recv, kcell_bar]
  rw [bigSep_slots fun j => atPos ER (sendCell c j) (endRound (kSend j)) ∅ 0, bigSep_slots fun j => atPos ER (recvCell c j) (endRound (kRecv j)) ∅ 0]
  simp only [hs, hr]
  rfl

end Cert.Exchange

end
-- ==== Proof.Body.lean ====
/-
# The kernel's body, run once at a symbolic device
-/
module

public import proofs.«01_k».proof.Proof.States
public import proofs.«01_k».proof.Proof.Gen.KernelIdeal.Points

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The product's block that device `c` computes. -/
def outAt (c : Dev nD) : Vec F S256x2048 .f32 := accAt m ρ c 7

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A whole buffer owned at a value is that buffer held at it. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer of device `c`, at `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

/-! ## The body -/

/-- What the body is entered with. -/
def bodyPre (c : Dev nD) : sProp 𝕄 :=
  iprop(Φ₀ m ρ c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
/-- What it leaves: the operands as they were, the output at the block computed. -/
def bodyPost (c : Dev nD) : sProp 𝕄 :=
  iprop(Φ₁ c ∗ (dats m ρ 0 c).owesAt () t0_0.succ ∗ staged c cc0_stg0_0 (xstg m ρ c) ∗ staged c cc0_stg1_0 (wstg m ρ c)
    ∗ staged c cc0_stg2_0 (outAt m ρ c))

/-- The body's start, sorted by the phase that uses each part. -/
def entered (c : Dev nD) : sProp 𝕄 :=
  iprop(∃ K W f, (records m ρ K ∗ levAts L lv)
    ∗ (owes (c : Thread nD τ) (cpyOwed c 0 + sigOwed c 0) W ∗ progress 0 (fun _ => iprop(emp)) (sigB c))
    ∗ (cred (tallyAt (barCell c) () 7) ∗ atPos ER (barCell c) 0 ∅ 0)
    ∗ ((bigSep Finset.univ fun o : Fin 7 => iprop(∃ f, xsPts c o.succ f))
      ∗ (bigSep Finset.univ fun o : Fin 7 => dutyTok ER (sendCell c o.succ) 0 0)
      ∗ bigSep Finset.univ fun o : Fin 7 => dutyTok ER (recvCell (fwd o c) o.succ) 0 0)
    ∗ ((bigSep Finset.univ fun o : Fin 7 => cred (tallyAt (recvCell c o.succ) () N))
      ∗ (bigSep Finset.univ fun o : Fin 7 => atPos ER (sendCell c o.succ) 0 ∅ 0)
      ∗ bigSep Finset.univ fun o : Fin 7 => atPos ER (recvCell c o.succ) 0 ∅ 0)
    ∗ ((∃ f, xsPts c 0 f) ∗ (∃ f, xtPts c 0 f) ∗ atPos ER (sendCell c 0) 0 ∅ 0 ∗ atPos ER (recvCell c 0) 0 ∅ 0)
    ∗ xPts m ρ c ∗ wPts m ρ c ∗ oPts c f)

theorem enter (c : Dev nD) : bodyPre m ρ c ⊢ entered m ρ c := by
  unfold bodyPre Φ₀ start ghost slotted Dat.owesAt Pipeline.owesWithin
  simp only [before_x, before_w]
  rw [show (dats m ρ 0 c).owed t0_0.castSucc = O₀ c from rfl]
  iintro ⟨⟨⟨⟨%K, #HR, Hat, Htok⟩, HcB, HcR, #Hlev⟩, Hxs, Hxt⟩, ⟨%W, %hW, HO⟩, ⟨%d0, %g0, %h0, Hx⟩, ⟨%d1, %g1, %h1, Hw⟩, ⟨%d2, %g2, %h2, Ho⟩⟩
  subst h0 h1
  ihave Hat := (Entails.of_eq (positions_eq c)) $$ Hat
  icases Hat with ⟨⟨⟨HaS0, HaS⟩, HaR0, HaR⟩, HaB⟩
  unfold payToks
  icases Htok with ⟨HtB, HtS, HtR⟩
  ihave Hxs := (xs_open c) $$ Hxs
  icases Hxs with ⟨Hxs0, Hxs⟩
  ihave Hxt := (xt_open c) $$ Hxt
  icases Hxt with ⟨Hxt0, Hxt⟩
  unfold entered
  iexists K, W, g2
  isplitr; · isplitr; · iexact HR
             iexact Hlev
  isplitl [HO HtB Hxt]
  · isplitl [HO]; · iexact HO
    iapply (signals_start c)
    isplitl [HtB] <;> iassumption
  isplitl [HcB HaB]; · isplitl [HcB] <;> iassumption
  isplitl [Hxs HtS HtR]
  · isplitl [Hxs]; · iexact Hxs
    isplitl [HtS] <;> iassumption
  isplitl [HcR HaS HaR]
  · isplitl [HcR]; · iexact HcR
    isplitl [HaS] <;> iassumption
  isplitl [Hxs0 Hxt0 HaS0 HaR0]
  · isplitl [Hxs0]; · iexact Hxs0
    isplitl [Hxt0]; · iexact Hxt0
    isplitl [HaS0] <;> iassumption
  unfold xPts wPts oPts
  isplitl [Hx]; · iexact Hx
  isplitl [Hw] <;> iassumption

/-- The body's end: every slot is taken back and every semaphore closed. -/
theorem leave (K : Dev nD × Fin 17 → ℕ) (c : Dev nD) :
    iprop(records m ρ K ∗ idle c ∗ progress 7 (rcvA m ρ c) (rcvB c) ∗ atPos ER (barCell c) 1 ∅ 0
        ∗ ((∃ f, xsPts c 0 f) ∗ (∃ f, xtPts c 0 f) ∗ atPos ER (sendCell c 0) 0 ∅ 0 ∗ atPos ER (recvCell c 0) 0 ∅ 0)
        ∗ xPts m ρ c ∗ wPts m ρ c ∗ oPts c (accAt m ρ c 7))
      ⊢ iprop(|={Set.univ}=> bodyPost m ρ c) := by
  iintro ⟨#HR, HI, HP, HaB, ⟨Hxs0, Hxt0, HaS0, HaR0⟩, Hx, Hw, Ho⟩
  ihave HP := (receives_end m ρ c) $$ HP
  icases HP with ⟨HaS, HaR, Hxs, Hxt⟩
  ihave Hxs := (xs_close m ρ c) $$ [Hxs0 Hxs]
  · isplitl [Hxs0] <;> iassumption
  ihave Hxt := (xt_close m ρ c) $$ [Hxt0 Hxt]
  · isplitl [Hxt0] <;> iassumption
  ihave Hat := (Entails.of_eq (end_positions (F := F) c)) $$ [HaS0 HaS HaR0 HaR HaB]
  · isplitr [HaB]
    · isplitl [HaS0 HaS]
      · isplitl [HaS0] <;> iassumption
      isplitl [HaR0] <;> iassumption
    iexact HaB
  imod (close_all m ρ K c) $$ [Hat] with Hz
  · isplitr; · iexact HR
    iexact Hat
  imodintro
  unfold bodyPost Φ₁ slotted Dat.owesAt Pipeline.owesWithin idle xPts wPts oPts
  rw [show (dats m ρ 0 c).owed t0_0.succ = 0 from rfl]
  icases HI with ⟨%W, HO⟩
  isplitl [Hxs Hxt Hz]
  · isplitl [Hxs Hxt]
    · isplitl [Hxs] <;> iassumption
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

omit [FloatOps F] in
theorem all_signalled (c : Dev nD) (W : Waits sig Unit) :
    (owes (c : Thread nD τ) (cpyOwed c 0 + sigOwed c 7) W : sProp 𝕄) = owes (c : Thread nD τ) (cpyOwed c 0) W := by
  rw [sigOwed_seven, add_zero]
omit [FloatOps F] in
theorem all_sent (c : Dev nD) (W : Waits sig Unit) : (owes (c : Thread nD τ) (cpyOwed c 7) W : sProp 𝕄) ⊢ idle c := by
  unfold idle; rw [cpyOwed_seven]; exact exists_intro (Φ := fun W => owes (c : Thread nD τ) 0 W) W

set_option maxHeartbeats 4000000 in
/-- The body: seven signals, the barrier, seven blocks sent, the own block, seven blocks received. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  iintro ⟨Hpre, Hk⟩
  ihave He := (enter m ρ c) $$ Hpre
  unfold entered
  icases He with ⟨%K, %W, %f, ⟨#HR, #Hlev⟩, ⟨HO, HP⟩, ⟨HcB, HaB⟩, ⟨Hxs, HtS, HtR⟩, ⟨HcR, HaS, HaR⟩, Hrest, Hx, Hw, Ho⟩
  iapply (wp_sig m ρ K c _ 0 (lo := 0) (hi := 1) rfl rfl (Fin.ext (sigDev_eq 0 c)) W) $$ [HO HP]
  · isplitr; · iexact HR
    isplitl [HO] <;> iassumption
  iintro ⟨HO, HP⟩
  iapply (wp_sig m ρ K c _ 1 (lo := 1) (hi := 2) rfl rfl (Fin.ext (sigDev_eq 1 c)) W) $$ [HO HP]
  · isplitr; · iexact HR
    isplitl [HO] <;> iassumption
  iintro ⟨HO, HP⟩
  iapply (wp_sig m ρ K c _ 2 (lo := 2) (hi := 3) rfl rfl (Fin.ext (sigDev_eq 2 c)) W) $$ [HO HP]
  · isplitr; · iexact HR
    isplitl [HO] <;> iassumption
  iintro ⟨HO, HP⟩
  iapply (wp_sig m ρ K c _ 3 (lo := 3) (hi := 4) rfl rfl (Fin.ext (sigDev_eq 3 c)) W) $$ [HO HP]
  · isplitr; · iexact HR
    isplitl [HO] <;> iassumption
  iintro ⟨HO, HP⟩
  iapply (wp_sig m ρ K c _ 4 (lo := 4) (hi := 5) rfl rfl (Fin.ext (sigDev_eq 4 c)) W) $$ [HO HP]
  · isplitr; · iexact HR
    isplitl [HO] <;> iassumption
  iintro ⟨HO, HP⟩
  iapply (wp_sig m ρ K c _ 5 (lo := 5) (hi := 6) rfl rfl (Fin.ext (sigDev_eq 5 c)) W) $$ [HO HP]
  · isplitr; · iexact HR
    isplitl [HO] <;> iassumption
  iintro ⟨HO, HP⟩
  iapply (wp_sig m ρ K c _ 6 (lo := 6) (hi := 7) rfl rfl (Fin.ext (sigDev_eq 6 c)) W) $$ [HO HP]
  · isplitr; · iexact HR
    isplitl [HO] <;> iassumption
  iintro ⟨HO, HP⟩
  iapply (wp_bar m ρ K c W) $$ [HcB HO HaB]
  · isplitr; · iexact HR
    isplitr; · iexact Hlev
    isplitl [HcB]; · iexact HcB
    isplitl [HO]
    · ihave HO := (Entails.of_eq (all_signalled c W)) $$ HO
      iexact HO
    iexact HaB
  iintro ⟨HO, HaB, Hpay⟩
  iclear HP
  ihave HP := (copies_start c) $$ [Hxs Hpay HtS HtR]
  · isplitl [Hxs]; · iexact Hxs
    isplitl [Hpay]; · iexact Hpay
    isplitl [HtS] <;> iassumption
  iapply (wp_send_block m ρ K c _ 0 (lo := 0) (hi := 1) rfl rfl (Fin.ext (cpyDev_eq 0 c)) _ (off1_eq 0 c) _ (fun _ => rfl)
      (sem_slice_send (0 : Fin 7).succ _) (sem_slice_recv (0 : Fin 7).succ _)) $$ [Hx HO HP]
  · isplitr; · iexact HR
    isplitl [Hx]; · iexact Hx
    isplitl [HO] <;> iassumption
  iintro ⟨Hx, HO, HP⟩
  iapply (wp_send_block m ρ K c _ 1 (lo := 1) (hi := 2) rfl rfl (Fin.ext (cpyDev_eq 1 c)) _ (off1_eq 1 c) _ (fun _ => rfl)
      (sem_slice_send (1 : Fin 7).succ _) (sem_slice_recv (1 : Fin 7).succ _)) $$ [Hx HO HP]
  · isplitr; · iexact HR
    isplitl [Hx]; · iexact Hx
    isplitl [HO] <;> iassumption
  iintro ⟨Hx, HO, HP⟩
  iapply (wp_send_block m ρ K c _ 2 (lo := 2) (hi := 3) rfl rfl (Fin.ext (cpyDev_eq 2 c)) _ (off1_eq 2 c) _ (fun _ => rfl)
      (sem_slice_send (2 : Fin 7).succ _) (sem_slice_recv (2 : Fin 7).succ _)) $$ [Hx HO HP]
  · isplitr; · iexact HR
    isplitl [Hx]; · iexact Hx
    isplitl [HO] <;> iassumption
  iintro ⟨Hx, HO, HP⟩
  iapply (wp_send_block m ρ K c _ 3 (lo := 3) (hi := 4) rfl rfl (Fin.ext (cpyDev_eq 3 c)) _ (off1_eq 3 c) _ (fun _ => rfl)
      (sem_slice_send (3 : Fin 7).succ _) (sem_slice_recv (3 : Fin 7).succ _)) $$ [Hx HO HP]
  · isplitr; · iexact HR
    isplitl [Hx]; · iexact Hx
    isplitl [HO] <;> iassumption
  iintro ⟨Hx, HO, HP⟩
  iapply (wp_send_block m ρ K c _ 4 (lo := 4) (hi := 5) rfl rfl (Fin.ext (cpyDev_eq 4 c)) _ (off1_eq 4 c) _ (fun _ => rfl)
      (sem_slice_send (4 : Fin 7).succ _) (sem_slice_recv (4 : Fin 7).succ _)) $$ [Hx HO HP]
  · isplitr; · iexact HR
    isplitl [Hx]; · iexact Hx
    isplitl [HO] <;> iassumption
  iintro ⟨Hx, HO, HP⟩
  iapply (wp_send_block m ρ K c _ 5 (lo := 5) (hi := 6) rfl rfl (Fin.ext (cpyDev_eq 5 c)) _ (off1_eq 5 c) _ (fun _ => rfl)
      (sem_slice_send (5 : Fin 7).succ _) (sem_slice_recv (5 : Fin 7).succ _)) $$ [Hx HO HP]
  · isplitr; · iexact HR
    isplitl [Hx]; · iexact Hx
    isplitl [HO] <;> iassumption
  iintro ⟨Hx, HO, HP⟩
  iapply (wp_send_block m ρ K c _ 6 (lo := 6) (hi := 7) rfl rfl (Fin.ext (cpyDev_eq 6 c)) _ (off1_eq 6 c) _ (fun _ => rfl)
      (sem_slice_send (6 : Fin 7).succ _) (sem_slice_recv (6 : Fin 7).succ _)) $$ [Hx HO HP]
  · isplitr; · iexact HR
    isplitl [Hx]; · iexact Hx
    isplitl [HO] <;> iassumption
  iintro ⟨Hx, HO, HP⟩
  ihave HP := (receives_start m ρ c) $$ [HP HcR HaS HaR]
  · isplitl [HP]; · iexact HP
    isplitl [HcR]; · iexact HcR
    isplitl [HaS] <;> iassumption
  ihave HI := (all_sent c _) $$ HO
  iapply (wp_own_block m ρ c f (k0_off2_eq c) (k0_off3_eq c)) $$ [Hx Hw Ho]
  · isplitl [Hx]; · iexact Hx
    isplitl [Hw] <;> iassumption
  iintro ⟨Hx, Hw, Ho⟩
  iapply (wp_receive_block m ρ K c 0 (lo := 0) (hi := 1) rfl rfl (off4_eq 0 c) _ (fun _ _ _ => rfl)
      (sem_slice_send (0 : Fin 7).succ _) (sem_slice_recv (0 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 1 (lo := 1) (hi := 2) rfl rfl (off4_eq 1 c) _ (fun _ _ _ => rfl)
      (sem_slice_send (1 : Fin 7).succ _) (sem_slice_recv (1 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 2 (lo := 2) (hi := 3) rfl rfl (off4_eq 2 c) _ (fun _ _ _ => rfl)
      (sem_slice_send (2 : Fin 7).succ _) (sem_slice_recv (2 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 3 (lo := 3) (hi := 4) rfl rfl (off4_eq 3 c) _ (fun _ _ _ => rfl)
      (sem_slice_send (3 : Fin 7).succ _) (sem_slice_recv (3 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 4 (lo := 4) (hi := 5) rfl rfl (off4_eq 4 c) _ (fun _ _ _ => rfl)
      (sem_slice_send (4 : Fin 7).succ _) (sem_slice_recv (4 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 5 (lo := 5) (hi := 6) rfl rfl (off4_eq 5 c) _ (fun _ _ _ => rfl)
      (sem_slice_send (5 : Fin 7).succ _) (sem_slice_recv (5 : Fin 7).succ _)) $$ [HI HP Hw Ho]
  · isplitr; · iexact HR
    isplitl [HI]; · iexact HI
    isplitl [HP]; · iexact HP
    isplitl [Hw] <;> iassumption
  iintro ⟨HI, HP, Hw, Ho⟩
  iapply (wp_receive_block m ρ K c 6 (lo := 6) (hi := 7) rfl rfl (off4_eq 6 c) _ (fun _ _ _ => rfl)
      (sem_slice_send (6 : Fin 7).succ _) (sem_slice_recv (6 : Fin 7).succ _)) $$ [HI HP Hw Ho]
  · isplitr; · iexact HR
    isplitl [HI]; · iexact HI
    isplitl [HP]; · iexact HP
    isplitl [Hw] <;> iassumption
  iintro ⟨HI, HP, Hw, Ho⟩
  rw [wp_ret]
  imod (leave m ρ K c) $$ [HI HP HaB Hrest Hx Hw Ho] with Hpost
  · isplitr; · iexact HR
    isplitl [HI]; · iexact HI
    isplitl [HP]; · iexact HP
    isplitl [HaB]; · iexact HaB
    isplitl [Hrest]; · iexact Hrest
    isplitl [Hx]; · iexact Hx
    isplitl [Hw] <;> iassumption
  imodintro
  iapply Hk
  iexact Hpost

/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

end Cert.Exchange

end
-- ==== Proof.Ghost.lean ====
/-
# The ghost state made at launch and dealt to the devices
-/
module

public import proofs.«01_k».proof.Proof.States

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores and duties -/

/-- Every semaphore of every device. -/
def cells : Finset (GSem nD τ sig) := Finset.univ.map ⟨kcell, kcell_injective⟩

/-- A device's duties, by the semaphore that each is on: seven on the barrier, then one on each send semaphore that is
    used, then one on each receive semaphore. -/
def duty : Fin 7 ⊕ (Fin 7 ⊕ Fin 7) → Fin 17 × Fin 7
  | .inl o => (kBar, o)
  | .inr (.inl o) => (kSend o.succ, 0)
  | .inr (.inr o) => (kRecv o.succ, 0)

theorem duty_injective : Function.Injective duty := by decide

/-- The token of a duty: its semaphore, round `0`, its name. -/
def tok (cx : Dev nD × (Fin 7 ⊕ (Fin 7 ⊕ Fin 7))) : GSem nD τ sig × ℕ × Fin 7 := (kcell (cx.1, (duty cx.2).1), 0, (duty cx.2).2)

theorem tok_injective : Function.Injective tok := by
  rintro ⟨c, x⟩ ⟨d, y⟩ h
  have hk := kcell_injective (congrArg Prod.fst h)
  have hd : duty x = duty y := Prod.ext (congrArg Prod.snd hk) (congrArg (fun t : GSem nD τ sig × ℕ × Fin 7 => t.2.2) h)
  have hc : c = d := congrArg Prod.fst hk
  rw [hc, duty_injective hd]

/-- Every token of every device. -/
def allToks : Finset (GSem nD τ sig × ℕ × Fin 7) := Finset.univ.map ⟨tok, tok_injective⟩

/-- The element of the resource algebra that the launch starts from: the pipeline's, and the exchange's. -/
def u₀ : UU :=
  (initOf (Pipeline.cells cfgs cellOf_inj) (Pipeline.launchToks cfgs cellOf_inj), initOf cells allToks)

/-- The tokens on device `c`'s own semaphores. -/
def ownToks (c : Dev nD) : sProp 𝕄 :=
  iprop((bigSep Finset.univ fun o : Fin 7 => dutyTok ER (barCell c) 0 o)
    ∗ (bigSep Finset.univ fun o : Fin 7 => dutyTok ER (sendCell c o.succ) 0 0)
    ∗ bigSep Finset.univ fun o : Fin 7 => dutyTok ER (recvCell c o.succ) 0 0)

/-- A device's share of the launch: its semaphores' round states, its positions, its own tokens. -/
def share₀ (c : Dev nD) : sProp 𝕄 :=
  iprop((bigSep Finset.univ fun k : Fin 17 => roundState ER (sched m ρ) (kcell (c, k)) 0)
    ∗ (positions c ∗ bigSep Finset.univ fun k : Fin 17 => reached ER (kcell (c, k)) 0) ∗ ownToks c)

omit [FloatOps F] in
theorem over_cells (Φ : GSem nD τ sig → sProp 𝕄) :
    bigSep cells Φ = bigSep Finset.univ fun c : Dev nD => bigSep Finset.univ fun k : Fin 17 => Φ (kcell (c, k)) := by
  unfold cells; rw [bigSep_map, bigSep_univ_prod]; rfl

omit [FloatOps F] in
theorem over_toks :
    bigSep allToks (fun x => (dutyTok ER x.1 x.2.1 x.2.2 : sProp 𝕄)) = bigSep Finset.univ fun c : Dev nD => ownToks c := by
  unfold allToks; rw [bigSep_map, bigSep_univ_prod]
  refine bigSep_congr fun c _ => ?_
  rw [bigSep_univ_sum, bigSep_univ_sum]
  show iprop((bigSep Finset.univ fun o : Fin 7 => dutyTok ER (kcell (c, kBar)) 0 o)
    ∗ (bigSep Finset.univ fun o : Fin 7 => dutyTok ER (kcell (c, kSend o.succ)) 0 0)
    ∗ bigSep Finset.univ fun o : Fin 7 => dutyTok ER (kcell (c, kRecv o.succ)) 0 0) = _
  simp only [kcell_send, kcell_recv, kcell_bar]
  rfl

omit [FloatOps F] in
/-- The exchange's part of the starting element is every device's share. -/
theorem fund : BI.own (ER (initOf cells allToks)) ⊢ (|==> bigSep Finset.univ (share₀ m ρ) : sProp 𝕄) := by
  iintro HX
  imod (Rounds.fund ER (sched m ρ) cells allToks) $$ HX with ⟨Hst, Hr, Hat, Htok⟩
  imodintro
  ihave Hst := (Entails.of_eq (over_cells fun g => roundState ER (sched m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold share₀ positions; simp only [bigSep_sep']
  isplitl [Hst]; · iexact Hst
  isplitl [Hat Hr]
  · isplitl [Hat] <;> iassumption
  iexact Htok

/-! ## The counters -/

omit [FloatOps F] in
/-- The kernel's own semaphores and the one that outlives it are the seventeen of the exchange. -/
theorem counters_eq (c : Dev nD) :
    iprop(Pipeline.ownSems0 (Ix := Unit) (Name := ℕ) (U := UU) (Lvl := ℕ) (Val := Elt F) (τ := τ) osem c ∗ unscopedSems0 c)
      = (bigSep Finset.univ fun k : Fin 17 => semVal (kcell (c, k)) 0 : sProp 𝕄) := by
  rw [bigSep_univ_equiv (finSumFinEquiv : Fin 16 ⊕ Fin 1 ≃ Fin 17), bigSep_univ_sum]
  rw [show (unscopedSems0 c : sProp 𝕄) = semVal (barCell c) 0 from by
    unfold unscopedSems0; rw [bigSep_eq_bigSepL_of_eq [SemLoc.reg barS] (by decide) (by decide)]; rfl]
  rw [show (Finset.univ : Finset (Fin 1)) = {0} from rfl, bigSep_singleton]
  unfold Pipeline.ownSems0
  congr 1

omit [FloatOps F] in
/-- A device's counters and round states make its semaphores' invariants. -/
theorem alloc (c : Dev nD) :
    iprop(Pipeline.ownSems0 (Ix := Unit) (Name := ℕ) (U := UU) (Lvl := ℕ) (Val := Elt F) (τ := τ) osem c ∗ unscopedSems0 c ∗ share₀ m ρ c)
      ⊢ |={Set.univ}=> iprop((bigSep Finset.univ fun k => iprop(∃ κ : ℕ, cellInv ER (sched m ρ) κ (kcell (c, k))))
          ∗ (positions c ∗ bigSep Finset.univ fun k : Fin 17 => reached ER (kcell (c, k)) 0) ∗ ownToks c) := by
  have hinv : iprop((bigSep Finset.univ fun k : Fin 17 => semVal (kcell (c, k)) 0)
        ∗ bigSep Finset.univ fun k : Fin 17 => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold share₀
  iintro ⟨Hos, Hus, Hst, Hat, Htok⟩
  ihave Hv := (Entails.of_eq (counters_eq (F := F) c)) $$ [Hos Hus]
  · isplitl [Hos] <;> iassumption
  imod hinv $$ [Hv Hst] with Hinv
  · isplitl [Hv] <;> iassumption
  imodintro
  isplitl [Hinv]; · iexact Hinv
  isplitl [Hat] <;> iassumption

/-! ## The deal -/

/-- A pair (device, offset) moved to the device that far ahead, the offset renamed. -/
def dealt (π : Fin 7 ≃ Fin 7) : Dev nD × Fin 7 ≃ Dev nD × Fin 7 where
  toFun p := (shift p.2 p.1, π p.2)
  invFun p := ((shift (π.symm p.2)).symm p.1, π.symm p.2)
  left_inv p := by simp
  right_inv p := by simp

omit [FloatOps F] in
/-- What is held on every device for every offset may as well be held by the device that far behind. -/
theorem deal (π : Fin 7 ≃ Fin 7) (Φ : Dev nD → Fin 7 → sProp 𝕄) :
    (bigSep Finset.univ fun c => bigSep Finset.univ fun o => Φ c o)
      = bigSep Finset.univ fun c => bigSep Finset.univ fun o => Φ (fwd o c) (π o) := by
  rw [← bigSep_univ_prod (fun p : Dev nD × Fin 7 => Φ p.1 p.2), bigSep_univ_equiv (dealt π), bigSep_univ_prod]
  rfl

omit [FloatOps F] in
/-- The tokens go to the devices that pay the duties. -/
theorem toks_dealt : (bigSep Finset.univ fun c : Dev nD => (ownToks c : sProp 𝕄)) ⊢ bigSep Finset.univ fun c : Dev nD => payToks c := by
  unfold ownToks payToks
  rw [bigSep_sep', bigSep_sep', bigSep_sep', bigSep_sep',
    deal Fin.revPerm (fun c o => (dutyTok ER (barCell c) 0 o : sProp 𝕄)),
    deal (Equiv.refl _) (fun c o => (dutyTok ER (recvCell c o.succ) 0 0 : sProp 𝕄))]
  exact BIBase.Entails.rfl

omit [FloatOps F] in
/-- Out of every device's invariants, positions and tokens: every device's ghost state. -/
theorem regroup :
    (bigSep Finset.univ fun c : Dev nD => iprop((bigSep Finset.univ fun k => iprop(∃ κ : ℕ, cellInv ER (sched m ρ) κ (kcell (c, k))))
          ∗ (positions c ∗ bigSep Finset.univ fun k : Fin 17 => reached ER (kcell (c, k)) 0) ∗ ownToks c) : sProp 𝕄)
      ⊢ bigSep Finset.univ (ghost m ρ) := by
  have hg (K : Dev nD × Fin 17 → ℕ) (c : Dev nD) : iprop(records m ρ K ∗ positions c ∗ payToks c) ⊢ ghost m ρ c :=
    exists_intro (Φ := fun K => iprop(records m ρ K ∗ positions c ∗ payToks c)) K
  rw [bigSep_sep', bigSep_sep', bigSep_sep',
    ← bigSep_univ_prod (fun ck : Dev nD × Fin 17 => iprop(∃ κ : ℕ, cellInv ER (sched m ρ) κ (kcell ck))),
    ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (sched m ρ) κ (kcell ck) : sProp 𝕄))) $$ HI
  icases HK with ⟨%K, #HI⟩
  ihave Htok := (toks_dealt (F := F)) $$ Htok
  iapply (bigSep_with_persistent (R := records m ρ K) fun c _ => hg K c)
  isplitr
  · unfold records; isplitl; · iexact HI
    iexact HR
  · rw [bigSep_sep']
    isplitl [Hat] <;> iassumption

omit [FloatOps F] in
/-- The launch's global step. -/
theorem glob : (bigSep Finset.univ fun c => iprop(Pipeline.ownSems0 (Ix := Unit) (Name := ℕ) (U := UU) (Lvl := ℕ) (Val := Elt F) (τ := τ) osem c ∗ unscopedSems0 c ∗ share₀ m ρ c) : sProp 𝕄)
    ⊢ |={Set.univ}=> bigSep Finset.univ (ghost m ρ) :=
  ((bigSep_mono fun c _ => alloc m ρ c).trans (bigSep_fupd _ _)).trans (BI.fupd_mono (regroup m ρ))

end Cert.Exchange

end
-- ==== Proof.Run.lean ====
/-
# The launch, and the run of the program
-/
module

public import proofs.«01_k».proof.Proof.Body
public import proofs.«01_k».proof.Proof.Ghost
public import Idealize.ShloMosaic.Lib.Pipeline.CollectiveSegs

@[expose] public section

set_option maxRecDepth 16384

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## What a device is owed at launch -/

theorem bar_cell_iff {c d : Dev nD} : barCell c = barCell d ↔ c = d :=
  ⟨fun h => congrArg (fun g : GSem nD τ sig => g.1.1) h, fun h => h ▸ rfl⟩
theorem recvS_injective : Function.Injective recvS := by decide
theorem recv_cell_iff {c d : Dev nD} {i j : Fin 8} : recvCell c i = recvCell d j ↔ c = d ∧ i = j :=
  ⟨fun h => ⟨congrArg (fun g : GSem nD τ sig => g.1.1) h, recvS_injective (SemLoc.dma.inj (congrArg Prod.snd h))⟩,
    fun h => by rw [h.1, h.2]⟩
theorem bar_ne_recv {c d : Dev nD} {j : Fin 8} : barCell c ≠ recvCell d j := fun h => by cases congrArg Prod.snd h

/-- Device `d` owes `c`'s barrier one unit for each offset from `d` to `c`; -/
theorem owed_bar (d c : Dev nD) : O₀ d (barCell c) () = ∑ o : Fin 7, if d = bwd o c then 1 else 0 := by
  unfold O₀ cpyOwed sigOwed
  rw [from_zero, Pi.add_apply, Finsupp.add_apply, Finset.sum_apply, Finset.sum_apply, Finsupp.finset_sum_apply, Finsupp.finset_sum_apply]
  rw [Finset.sum_eq_zero fun o _ => by rw [tallyAt_apply, if_neg fun h => bar_ne_recv h.1], Nat.zero_add]
  refine Finset.sum_congr rfl fun o _ => ?_
  rw [tallyAt_apply]
  refine if_congr ?_ rfl rfl
  rw [bar_cell_iff, and_iff_left rfl, eq_comm, fwd_eq_iff]
/-- and `c`'s receive semaphore `o + 1` a block's credit, if it is `o + 1` places behind. -/
theorem owed_recv (d c : Dev nD) (o : Fin 7) : O₀ d (recvCell c o.succ) () = if d = bwd o c then N else 0 := by
  unfold O₀ cpyOwed sigOwed
  rw [from_zero, Pi.add_apply, Finsupp.add_apply, Finset.sum_apply, Finset.sum_apply, Finsupp.finset_sum_apply, Finsupp.finset_sum_apply]
  rw [Finset.sum_eq_zero (f := fun o => (tallyAt (barCell (fwd o d)) () 1 : CellTallies nD τ sig Unit) (recvCell c _) ())
    fun o _ => by rw [tallyAt_apply, if_neg fun h => bar_ne_recv h.1.symm], Nat.add_zero]
  rw [Finset.sum_eq_single o
    (fun e _ he => by
      rw [tallyAt_apply, if_neg fun h => he (Fin.succ_injective _ (recv_cell_iff.mp h.1).2.symm)])
    fun h => absurd (Finset.mem_univ o) h]
  rw [tallyAt_apply]
  refine if_congr ?_ rfl rfl
  rw [recv_cell_iff, and_iff_left rfl, and_iff_left rfl, eq_comm, fwd_eq_iff]

/-- The barrier's launch credit is seven units, -/
theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun o _ => by rw [Finset.sum_ite_eq' Finset.univ (bwd o c) fun _ => 1, if_pos (Finset.mem_univ _)]]
  rfl
/-- a used receive semaphore's is one block's. -/
theorem credit_recv (c : Dev nD) (o : Fin 7) :
    tallyOn (recvCell c o.succ) (launchCredit (Pipeline.owing O₀) 0 (recvCell c o.succ))
      = (tallyAt (recvCell c o.succ) () N : CellTallies nD τ sig Unit) := by
  unfold tallyAt; refine congrArg _ (Finsupp.ext fun u => ?_); cases u
  rw [Pipeline.launchCredit_owing, Finsupp.single_eq_same, Finset.sum_congr rfl fun d _ => owed_recv d c o,
    Finset.sum_ite_eq' Finset.univ (bwd o c) fun _ => N, if_pos (Finset.mem_univ _)]

/-- The receive semaphores that are used, among all. -/
def recvLoc : Fin 7 ↪ SemLoc sig := ⟨fun o => .dma (recvS o.succ), fun a b h => Fin.succ_injective _ (recvS_injective (SemLoc.dma.inj h))⟩

omit [FloatOps F] in
theorem credits (c : Dev nD) :
    (Pipeline.launchCred O₀ c : sProp 𝕄)
      ⊢ iprop(cred (tallyAt (barCell c) () 7) ∗ bigSep Finset.univ fun o : Fin 7 => cred (tallyAt (recvCell c o.succ) () N)) := by
  unfold Pipeline.launchCred
  rw [bigSep_univ_at _ (SemLoc.reg barS), credit_bar]
  refine sep_mono_right ((bigSep_subset (t := Finset.univ.map recvLoc) fun x hx => ?_).trans ?_)
  · obtain ⟨o, -, rfl⟩ := Finset.mem_map.mp hx
    exact Finset.mem_erase.mpr ⟨fun h => (by cases h), Finset.mem_univ _⟩
  · rw [bigSep_map]
    exact bigSep_mono fun o _ => Entails.of_eq (congrArg cred (credit_recv c o))

/-! ## The launch's side conditions -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (credits (F := F) c) $$ Hcr
  icases Hc with ⟨HB, HR⟩
  imodintro
  unfold start
  isplitl
  · isplitl [HG]; · iexact HG
    isplitl [HB]; · iexact HB
    isplitl [HR] <;> iassumption
  · iempintro

theorem before_body (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ slotted
  iintro ⟨Hs, -, Hr⟩
  isplitl [Hs] <;> iassumption

theorem after_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ slotted
  rw [← counters_eq]
  iintro ⟨Hr, Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each window's array after the run. -/
def finalA (c : Dev nD) (w : Fin cfg0.W) : Buf (Elt F) ((cfg0.win w).arr.view.loc (c : Thread nD τ)) := (dats m ρ 0 c).arrAt w cfg0.N

/-- Every device's arrays are as computed. -/
def Final : PUnit × MemSt nD τ sig (Elt F) → Prop := fun r =>
  ∀ c : Dev nD, ∀ w : Fin cfg0.W, r.2.mem ((cfg0.win w).arr.view.loc (c : Thread nD τ)) = finalA m ρ c w

/-- From any memory with all counters zero, on eight devices, for any float values: every weakly fair execution of the
    program ends, with every device's arrays as computed and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0)
    (hstage := stage_whole0) (hshare := share_eq m ρ) (hdistinct := winFacts0.arr_inj)
    (O₀ := O₀) (howed₀ := fun _ => rfl) (howedN := fun _ => rfl)
    (L := L) (lv := lv) (hL := L_of_ne) (hwaits := waits m ρ)
    (G := share₀ m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := before_body m ρ) (hout := after_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The columns of `x` are left as they were, -/
theorem final_x (c : Dev nD) : finalA m ρ c (0 : Fin 3) = (s₀ m ρ).mem (win0_0.arr.view.loc (c : Thread nD τ)) :=
  (dats (F := F) m ρ 0 c).arrAt_in (0 : Fin 3) rfl _
/-- and so is `w`. -/
theorem final_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Block.lean ====
/-
# One block in exact arithmetic

What the kernel's two block computations are at one index of the output: a row of the sent block times a column of the
block of `w`, as a sum of 256 products.
-/
module

public import proofs.«01_k».proof.Proof.Gen.KernelIdeal.Skeleton
public import Idealize.ShloMosaic.Lib.Pointwise

@[expose] public section

noncomputable section

namespace Cert.Exchange

open Cert.KernelIdeal Cert.KernelIdeal.Gen
open Idealize.ShloMosaic

/-- The own block's product. -/
theorem own_apply (x : Vec Ideal S256x256 .bf16) (w : Vec Ideal S256x2048 .bf16) (r : Fin 256) (l : Fin 2048) :
    k0_pay10 x w (ix2 r l) = ∑ k : Fin 256, x (ix2 r k) * w (ix2 k l) := by
  pointwise [k0_pay10]

/-- A received block's product, added to what is accumulated. -/
theorem step_apply (x : Vec Ideal S256x256 .bf16) (w : Vec Ideal S256x2048 .bf16) (a : Vec Ideal S256x2048 .f32)
    (r : Fin 256) (l : Fin 2048) :
    k0_pay11 w a (k0_pay2 x) (ix2 r l) = a (ix2 r l) + ∑ k : Fin 256, x (ix2 r k) * w (ix2 k l) := by
  pointwise [k0_pay11, k0_pay2]

end Cert.Exchange

end
-- ==== Proof.Whole.lean ====
/-
# The blocks as parts of the whole matrices

Device `d` holds 256 columns of `x`, and all of `w`. Where each block that the exchange moves or multiplies lies in the
device's arrays; and where, if those arrays are parts of one whole `x` and `w`, it lies in them.
-/
module

public import proofs.«01_k».proof.Proof.Run
public import proofs.«01_k».proof.Proof.Block
public import Idealize.ShloMosaic.Lib.Layout

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The staged columns of `x` are the argument array: the window has one block, which is all of it; -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- the staged `w` is the argument array; -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- and the result array after the run is what the body leaves. -/
theorem final_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans h

/-- Row `256 d + r` of a matrix of 2048 rows. -/
def rowAt (d : Dev nD) (r : Fin 256) : Fin 2048 := ⟨256 * d.val + r.val, by have := d.isLt; have := r.isLt; unfold nD at *; omega⟩

/-- The block that `c` holds for `d`: the rows of `d` in the columns of `c`. -/
theorem xblk_apply (c d : Dev nD) (r k : Fin 256) :
    xblk m ρ c d (ix2 r k) = m ((c : Thread nD τ).loc main_arg0) (ix2 (rowAt d r) k) := by
  unfold xblk
  rw [xstg_eq, View.readAt_apply]
  refine congrArg (m ((c : Thread nD τ).loc main_arg0)) ?_
  funext a; apply Fin.ext
  match a with
  | ⟨0, _⟩ => show 256 * d.val + 1 * r.val = 256 * d.val + r.val; omega
  | ⟨1, _⟩ => show 0 + 1 * k.val = k.val; omega

/-- The rows of `d` in `w`. -/
theorem wblk_apply (c d : Dev nD) (k : Fin 256) (l : Fin 2048) :
    wblk m ρ c d (ix2 k l) = m ((c : Thread nD τ).loc main_arg1) (ix2 (rowAt d k) l) := by
  unfold wblk
  rw [wstg_eq, View.readAt_apply]
  refine congrArg (m ((c : Thread nD τ).loc main_arg1)) ?_
  funext a; apply Fin.ext
  match a with
  | ⟨0, _⟩ => show 256 * d.val + 1 * k.val = 256 * d.val + k.val; omega
  | ⟨1, _⟩ => show 0 + 1 * l.val = l.val; omega

/-- Column `k` of device `d`'s part of a matrix is column `256 d + k` of the matrix. -/
theorem columns_apply {α : Type} (d : Dev nD) (X : S2048x2048.Idx → α) (i : Fin 2048) (k : Fin 256) :
    Layout.block ⟨2, ![2048, 256]⟩ ⟨2, ![2048, 2048]⟩ 1 8 d X (by decide) (ix2 i k) = X (ix2 i (rowAt d k)) := by
  refine congrArg X ?_
  funext a; apply Fin.ext
  match a with
  | ⟨0, _⟩ => rfl
  | ⟨1, _⟩ => show d.val * 256 + k.val = 256 * d.val + k.val; omega

/-- Row `r` of device `c`'s part of a matrix is row `256 c + r` of the matrix. -/
theorem rows_apply {α : Type} (c : Dev nD) (X : S2048x2048.Idx → α) (r : Fin 256) (l : Fin 2048) :
    Layout.block ⟨2, ![256, 2048]⟩ ⟨2, ![2048, 2048]⟩ 0 8 c X (by decide) (ix2 r l) = X (ix2 (rowAt c r) l) := by
  refine congrArg X ?_
  funext a; apply Fin.ext
  match a with
  | ⟨0, _⟩ => show c.val * 256 + r.val = 256 * c.val + r.val; omega
  | ⟨1, _⟩ => rfl

end Cert.Exchange

end
-- ==== Proof.RefValue.lean ====
/-
# What the reference computes

One product of the whole matrices. Its rounding to bfloat16 and back changes no extended real, so over them an entry of
the result is a sum of 2048 products.
-/
module

public import proofs.«01_k».proof.Proof.Gen.ReferenceIdeal.Run
public import Idealize.ShloMosaic.Lib.Pointwise

@[expose] public section

noncomputable section

namespace Cert.Exchange

open Idealize.ShloMosaic

/-- The reference's result, of whole matrices `X` and `W`. -/
def product (X W : FVec Ideal ReferenceIdeal.S2048x2048 .bf16) : FVec Ideal ReferenceIdeal.S2048x2048 .f32 :=
  extf .f32 (truncf .bf16 ((Host.dotGeneral
    ReferenceIdeal.dot_S2048x2048_S2048x2048_S2048x2048_1_0_0_1_n_n none X W : FVec Ideal ReferenceIdeal.S2048x2048 .f32))
      ReferenceIdeal.Gen.bitsLt_bf16_f32) ReferenceIdeal.Gen.bitsLt_bf16_f32

/-- One entry of it. -/
theorem product_apply (X W : FVec Ideal ReferenceIdeal.S2048x2048 .bf16) (i l : Fin 2048) :
    product X W (ix2 i l) = ∑ k : Fin 2048, X (ix2 i k) * W (ix2 k l) := by
  pointwise [product]

end Cert.Exchange

end
-- ==== Proof.Equation.lean ====
/-
# The eight blocks' products add up to the whole product

A device's result is a sum of eight terms, one for each device: the columns of `x` that the device holds times the same
rows of `w`. In whatever order they are added, they are all the products of a row of `x` and a column of `w`.
-/
module

public import proofs.«01_k».proof.Proof.Whole
public import proofs.«01_k».proof.Proof.RefValue

@[expose] public section

noncomputable section

namespace Cert.Exchange

open Cert.KernelIdeal Cert.KernelIdeal.Gen
open Idealize.ShloMosaic
open Idealize.ShloMosaic.TcCoe

/-- The devices at the distances 0 to 7 before `c` are all the devices, each once. -/
theorem behind_bijective (c : Dev nD) : Function.Bijective fun j : Fin 8 => behind j c := by
  constructor
  · intro i j; revert c i j; decide
  · intro d; revert c d; decide

/-- A sum that goes by distance before `c` is the sum over the devices. -/
theorem sum_behind {β : Type} [AddCommMonoid β] (c : Dev nD) (p : Dev nD → β) :
    p c + ∑ o : Fin 7, p (bwd o c) = ∑ d, p d := by
  have h0 : behind 0 c = c := by revert c; decide
  refine Eq.trans ?_ ((behind_bijective c).sum_comp p)
  rw [Fin.sum_univ_succ (fun j : Fin 8 => p (behind j c)), h0]

/-- A sum over the 2048 rows is the sum over the devices of the sums over a device's 256 rows. -/
theorem sum_rows {β : Type} [AddCommMonoid β] (g : Fin 2048 → β) :
    ∑ d : Dev nD, ∑ k : Fin 256, g (rowAt d k) = ∑ k, g k := by
  rw [← Fintype.sum_prod_type' (fun (d : Dev nD) (k : Fin 256) => g (rowAt d k))]
  exact Fintype.sum_equiv (finProdFinEquiv (m := 8) (n := 256)) _ _
    fun p => congrArg g (Fin.ext (Nat.add_comm _ _))

variable (m : (ℓ : Loc nD τ sig) → Buf (Elt Ideal) ℓ) (ρ : Dev nD → PrngReg)

/-- What device `d`'s columns of `x` and rows of `w` contribute to device `c`'s entry `(r, l)`. -/
def part (c : Dev nD) (r : Fin 256) (l : Fin 2048) (d : Dev nD) : Ideal .f32 :=
  ∑ k : Fin 256, xblk m ρ d c (ix2 r k) * wblk m ρ c d (ix2 k l)

/-- After the first `n` received blocks the output holds their parts and the own one. -/
theorem accAt_apply (c : Dev nD) (r : Fin 256) (l : Fin 2048) (n : ℕ) (hn : n ≤ 7) :
    accAt m ρ c n (ix2 r l) = part m ρ c r l c + ∑ o : Fin n, part m ρ c r l (bwd (o.castLE hn) c) := by
  induction n with
  | zero => rw [Fin.sum_univ_zero, add_zero]; exact own_apply _ _ r l
  | succ n ih =>
    rw [accAt_step m ρ c ⟨n, hn⟩, step_apply, ih (Nat.le_of_succ_le hn),
      Fin.sum_univ_castSucc (fun o : Fin (n + 1) => part m ρ c r l (bwd (o.castLE hn) c)), ← add_assoc]
    rfl

/-- The result's entry: all eight devices' parts. -/
theorem outAt_apply (c : Dev nD) (r : Fin 256) (l : Fin 2048) :
    outAt m ρ c (ix2 r l) = ∑ d, part m ρ c r l d :=
  (accAt_apply m ρ c r l 7 le_rfl).trans (sum_behind c (part m ρ c r l))

/-- Where every device holds its columns of `X` and all of `W`, device `c`'s result is its rows of the product. -/
theorem outAt_eq (X W : S2048x2048.Idx → Elt Ideal .bf16)
    (hX : ∀ d : Dev nD, m ((d : Thread nD τ).loc main_arg0)
      = Layout.block ⟨2, ![2048, 256]⟩ ⟨2, ![2048, 2048]⟩ 1 8 d X (by decide))
    (hW : ∀ d : Dev nD, m ((d : Thread nD τ).loc main_arg1) = W) (c : Dev nD) :
    outAt m ρ c = Layout.block ⟨2, ![256, 2048]⟩ ⟨2, ![2048, 2048]⟩ 0 8 c (product X W) (by decide) := by
  have entry (r : Fin 256) (l : Fin 2048) : outAt m ρ c (ix2 r l) = product X W (ix2 (rowAt c r) l) := by
    rw [outAt_apply, product_apply, ← sum_rows]
    refine Finset.sum_congr rfl fun d _ => Finset.sum_congr rfl fun k _ => ?_
    rw [xblk_apply, wblk_apply, hX d, hW c, columns_apply]
  funext i
  rw [eq_ix2 i]
  exact (entry _ _).trans (rows_apply c (product X W) _ _).symm

end Cert.Exchange

end
-- ==== Proof.lean ====
/-
# The claims

One run of the kernel, proved for any float values, gives both of its frames and its value. The reference's run gives
the reference's frame and value. The two values agree by `Cert.Exchange.outAt_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Equation
public import Idealize.ShloMosaic.Lib.Quiescent

@[expose] public section

noncomputable section

namespace Cert.Proof

open Idealize.ShloMosaic Idealize.SL.Sem

/-- On hardware floats the kernel ends, without fault, with its arguments as they were and every counter at zero. Its
    text is the idealized program's, so the run is the one proved for any float values. -/
theorem frame_kernel : Cert.quiescent_Kernel := fun m ρ _ =>
  Exchange.run_same _ _ ((θ_run Cert.KernelIdeal.defs _ _).mono
    (fun _ h => ⟨fun c => ⟨(h.1 c (0 : Fin 3)).trans (Exchange.final_x m ρ c), (h.1 c (1 : Fin 3)).trans (Exchange.final_w m ρ c)⟩, h.2⟩)
    (Exchange.run_main (F := Bits) m ρ))

/-- And so does it over the extended reals. -/
theorem frame_kernelIdeal : Cert.quiescent_KernelIdeal := fun m ρ _ =>
  (θ_run Cert.KernelIdeal.defs _ _).mono
    (fun _ h => ⟨fun c => ⟨(h.1 c (0 : Fin 3)).trans (Exchange.final_x m ρ c), (h.1 c (1 : Fin 3)).trans (Exchange.final_w m ρ c)⟩, h.2⟩)
    (Exchange.run_main (F := Ideal) m ρ)

/-- The reference ends with its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals each device's result is its 256 rows of the reference's product of the whole matrices. -/
theorem same_product : Cert.algebraic_KernelIdeal_ReferenceIdeal := fun m ρ m' ρ' _ hagree =>
  ⟨Exchange.product
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨((h.1 c (2 : Fin 3)).trans (Exchange.final_out m ρ c)).trans
          (Exchange.outAt_eq m ρ _ _ (fun d => (hagree d).1) (fun d => (hagree d).2) c),
        (h.1 c (0 : Fin 3)).trans (Exchange.final_x m ρ c), (h.1 c (1 : Fin 3)).trans (Exchange.final_w m ρ c)⟩)
      (Exchange.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, same_product⟩

end Cert.Proof

end
